-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grad_finite [hPre_grad_finite : Cert.Pre_grad_finite.Facts] (m : (ℓ : Loc Cert.KernelIdeal.nD Cert.KernelIdeal.τ Cert.KernelIdeal.sig) → Buf (Elt Ideal) ℓ) : Prop :=
  ∀ c : Dev Cert.KernelIdeal.nD,
    (Cert.Pre_grad_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grad_finite [hPre_grad_finite : Cert.Pre_grad_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grad_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_grad_finite [hKernelIdeal : Cert.KernelIdeal.Facts] [hPre_grad_finite : Cert.Pre_grad_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grad_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_grad_finite [hReferenceIdeal : Cert.ReferenceIdeal.Facts] [hPre_grad_finite : Cert.Pre_grad_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grad_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "gelu_kc" .f32 0x3D122279#32 (((6693141 / 8388608) * (12003091 / 268435456) : ℝ) : EReal)

def algebraic_KernelIdeal_ReferenceIdeal_pre_grad_finite [hKernelIdeal : Cert.KernelIdeal.Facts] [hReferenceIdeal : Cert.ReferenceIdeal.Facts] [hPre_grad_finite : Cert.Pre_grad_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grad_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v66_0) = v1 c
          ∧ r.2.mem ((c.tc : Thread Cert.ReferenceIdeal.nD Cert.ReferenceIdeal.τ).loc Cert.ReferenceIdeal.main_v66_1) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_grad_finite : Cert.Pre_grad_finite.Facts),
    quiescent_Kernel (hKernel := hKernel)
    ∧ quiescent_KernelIdeal (hKernelIdeal := hKernelIdeal)
    ∧ quiescent_KernelIdeal_pre_grad_finite (hKernelIdeal := hKernelIdeal) (hPre_grad_finite := hPre_grad_finite)
    ∧ quiescent_ReferenceIdeal (hReferenceIdeal := hReferenceIdeal)
    ∧ quiescent_ReferenceIdeal_pre_grad_finite (hReferenceIdeal := hReferenceIdeal) (hPre_grad_finite := hPre_grad_finite)
    ∧ preserves_Kernel_KernelIdeal
    ∧ algebraic_KernelIdeal_ReferenceIdeal_pre_grad_finite (hKernelIdeal := hKernelIdeal) (hReferenceIdeal := hReferenceIdeal) (hPre_grad_finite := hPre_grad_finite)
-- ==== Pre_grad_finite.lean ====
abbrev S25600x5120 : Shape := ⟨2, ![25600, 5120]⟩
abbrev S_ : Shape := ⟨0, ![]⟩

class Facts : Prop where
  bcast_S_S25600x5120 : S_.BroadcastsInDim S25600x5120 (![] : Fin 0 → Fin S25600x5120.rank)
  reducesTo_S25600x5120_S_d0_1 : S25600x5120.ReducesTo [0, 1] S_
  h_S_ : 0 < S_.numel

variable [Facts]

def fn {F : FTy → Type} [FloatOps F] (main_arg0 : FVec F S25600x5120 .bf16) (main_arg1 : FVec F S25600x5120 .bf16) : IVec S_ 1 :=
  let main_v0 : FVec F S25600x5120 .bf16 := Host.absf main_arg1
  let main_cst : FVec F S_ .bf16 := constant S_ .bf16 0x7F7F#16
  let main_v1 : FVec F S25600x5120 .bf16 := broadcastInDim S25600x5120 ![] bcast_S_S25600x5120 main_cst
  let main_v2 : IVec S25600x5120 1 := cmpf .ole main_v0 main_v1
  let main_c : IVec S_ 1 := constantI S_ 1 1#1
  let main_v3 : IVec S_ 1 := (fun x v => Host.reduce IntOp.andi x v reducesTo_S25600x5120_S_d0_1 h_S_) main_v2 main_c
  main_v3
-- ==== Kernel.lean ====
abbrev S25600x5120 : Shape := ⟨2, ![25600, 5120]⟩
abbrev S1x5120 : Shape := ⟨2, ![1, 5120]⟩
abbrev S5120x25600 : Shape := ⟨2, ![5120, 25600]⟩
abbrev S200x40x8x128 : Shape := ⟨4, ![200, 40, 8, 128]⟩
abbrev S512x1024 : Shape := ⟨2, ![512, 1024]⟩
abbrev S1x1024 : Shape := ⟨2, ![1, 1024]⟩
abbrev S1024x512 : Shape := ⟨2, ![1024, 512]⟩
abbrev S4x8x8x128 : Shape := ⟨4, ![4, 8, 8, 128]⟩
abbrev S8x1024 : Shape := ⟨2, ![8, 1024]⟩
abbrev S128x128 : Shape := ⟨2, ![128, 128]⟩
abbrev S8x128 : Shape := ⟨2, ![8, 128]⟩
abbrev S16x8x128 : Shape := ⟨3, ![16, 8, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x8x128 : Shape := ⟨3, ![1, 8, 128]⟩
abbrev S1x1x8x128 : Shape := ⟨4, ![1, 1, 8, 128]⟩
abbrev S1024 : Shape := ⟨1, ![1024]⟩

abbrev nBuf : Space → Nat
  | .hbm => 6
  | .vmem => 13
  | .smem => 0
  | _ => 0

abbrev bufTy : (tb : Table) → Fin (tcTables nBuf tb) → BufTy
  | .hbm, ⟨0, _⟩ => ⟨S25600x5120, .bf16⟩
  | .hbm, ⟨1, _⟩ => ⟨S25600x5120, .bf16⟩
  | .hbm, ⟨2, _⟩ => ⟨S1x5120, .f32⟩
  | .hbm, ⟨3, _⟩ => ⟨S25600x5120, .fp8e5m2⟩
  | .hbm, ⟨4, _⟩ => ⟨S5120x25600, .fp8e5m2⟩
  | .hbm, ⟨5, _⟩ => ⟨S200x40x8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .fp8e5m2⟩
  | .local _ .vmem, ⟨7, _⟩ => ⟨S512x1024, .fp8e5m2⟩
  | .local _ .vmem, ⟨8, _⟩ => ⟨S1024x512, .fp8e5m2⟩
  | .local _ .vmem, ⟨9, _⟩ => ⟨S1024x512, .fp8e5m2⟩
  | .local _ .vmem, ⟨10, _⟩ => ⟨S4x8x8x128, .f32⟩
  | .local _ .vmem, ⟨11, _⟩ => ⟨S4x8x8x128, .f32⟩
  | .local _ .vmem, ⟨12, _⟩ => ⟨S8x1024, .f32⟩
  | _, _ => ⟨S25600x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![5, 50], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c128_i32 : BitVec 32 := 128#32
  let v13 : BitVec 32 := Scalar.muli arg9 c128_i32
  v13
def k0_off1 (k0_t1 : Fin k0_t1_loop.trips) : Fin 2 → Nat :=
  let c0_19 : Index := 0#32
  let c0_i32_1 : BitVec 32 := 0#32
  let c1_i32 : BitVec 32 := 1#32
  let arg9 : BitVec 32 := Scf.iv c0_i32_1 c1_i32 k0_t1
  let c128_i32 : BitVec 32 := 128#32
  let v13 : BitVec 32 := Scalar.muli arg9 c128_i32
  let v14 : BitVec 32 := v13
  let v15 : Index := Scalar.indexCast v14
  ![0, v15.toNat]
def k0_off2 (k0_t1 : Fin k0_t1_loop.trips) : Fin 2 → Nat :=
  let c0_27 : Index := 0#32
  let c0_i32_1 : BitVec 32 := 0#32
  let c1_i32 : BitVec 32 := 1#32
  let arg9 : BitVec 32 := Scf.iv c0_i32_1 c1_i32 k0_t1
  let c128_i32 : BitVec 32 := 128#32
  let v13 : BitVec 32 := Scalar.muli arg9 c128_i32
  let v14 : BitVec 32 := v13
  let v41 : Index := Scalar.indexCast v14
  ![0, v41.toNat]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v13 : BitVec 32 := Scalar.muli arg9 c128_i32
  let v14 : BitVec 32 := v13
  let v150 : Index := Scalar.indexCast v14
  let c0_54 : Index := 0#32
  ![v150.toNat, 0]
def k0_off4 (k0_t1 : Fin k0_t1_loop.trips) : Fin 4 → Nat :=
  let c0_57 : Index := 0#32
  let c0_i32_1 : BitVec 32 := 0#32
  let c1_i32 : BitVec 32 := 1#32
  let arg9 : BitVec 32 := Scf.iv c0_i32_1 c1_i32 k0_t1
  let v157 : Index := Scalar.indexCast arg9
  let c0_58 : Index := 0#32
  let c0_59 : Index := 0#32
  ![0, v157.toNat, 0, 0]
@[reducible] def k0_t2_loop : Scf.Loop 32 :=
  let c0_i32_3 : BitVec 32 := 0#32
  let c8_i32_4 : BitVec 32 := 8#32
  let v4 : BitVec 32 := Scalar.addi c0_i32_3 c8_i32_4
  let c1_i32_5 : BitVec 32 := 1#32
  ⟨c0_i32_3, v4, c1_i32_5⟩
def k0_mult2 (k0_t2 : Fin k0_t2_loop.trips) : BitVec 32 :=
  let c0_i32_3 : BitVec 32 := 0#32
  let c1_i32_5 : BitVec 32 := 1#32
  let arg9 : BitVec 32 := Scf.iv c0_i32_3 c1_i32_5 k0_t2
  let c128_i32 : BitVec 32 := 128#32
  let v13 : BitVec 32 := Scalar.muli arg9 c128_i32
  v13
def k0_off5 (k0_t2 : Fin k0_t2_loop.trips) : Fin 2 → Nat :=
  let c128 : Index := 128#32
  let c0_i32_3 : BitVec 32 := 0#32
  let c1_i32_5 : BitVec 32 := 1#32
  let arg9 : BitVec 32 := Scf.iv c0_i32_3 c1_i32_5 k0_t2
  let c128_i32 : BitVec 32 := 128#32
  let v13 : BitVec 32 := Scalar.muli arg9 c128_i32
  let v14 : BitVec 32 := v13
  let v15 : Index := Scalar.indexCast v14
  ![128, v15.toNat]
def k0_off6 (k0_t2 : Fin k0_t2_loop.trips) : Fin 2 → Nat :=
  let c0_26 : Index := 0#32
  let c0_i32_3 : BitVec 32 := 0#32
  let c1_i32_5 : BitVec 32 := 1#32
  let arg9 : BitVec 32 := Scf.iv c0_i32_3 c1_i32_5 k0_t2
  let c128_i32 : BitVec 32 := 128#32
  let v13 : BitVec 32 := Scalar.muli arg9 c128_i32
  let v14 : BitVec 32 := v13
  let v41 : Index := Scalar.indexCast v14
  ![0, v41.toNat]
def k0_off7 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c128_i32 : BitVec 32 := 128#32
  let v13 : BitVec 32 := Scalar.muli arg9 c128_i32
  let v14 : BitVec 32 := v13
  let v150 : Index := Scalar.indexCast v14
  let c128_53 : Index := 128#32
  ![v150.toNat, 128]
def k0_off8 (k0_t2 : Fin k0_t2_loop.trips) : Fin 4 → Nat :=
  let c1 : Index := 1#32
  let c0_i32_3 : BitVec 32 := 0#32
  let c1_i32_5 : BitVec 32 := 1#32
  let arg9 : BitVec 32 := Scf.iv c0_i32_3 c1_i32_5 k0_t2
  let v157 : Index := Scalar.indexCast arg9
  let c0_56 : Index := 0#32
  let c0_57 : Index := 0#32
  ![1, v157.toNat, 0, 0]
@[reducible] def k0_t3_loop : Scf.Loop 32 :=
  let c0_i32_7 : BitVec 32 := 0#32
  let c8_i32_8 : BitVec 32 := 8#32
  let v5 : BitVec 32 := Scalar.addi c0_i32_7 c8_i32_8
  let c1_i32_9 : BitVec 32 := 1#32
  ⟨c0_i32_7, v5, c1_i32_9⟩
def k0_mult3 (k0_t3 : Fin k0_t3_loop.trips) : BitVec 32 :=
  let c0_i32_7 : BitVec 32 := 0#32
  let c1_i32_9 : BitVec 32 := 1#32
  let arg9 : BitVec 32 := Scf.iv c0_i32_7 c1_i32_9 k0_t3
  let c128_i32 : BitVec 32 := 128#32
  let v13 : BitVec 32 := Scalar.muli arg9 c128_i32
  v13
def k0_off9 (k0_t3 : Fin k0_t3_loop.trips) : Fin 2 → Nat :=
  let c256 : Index := 256#32
  let c0_i32_7 : BitVec 32 := 0#32
  let c1_i32_9 : BitVec 32 := 1#32
  let arg9 : BitVec 32 := Scf.iv c0_i32_7 c1_i32_9 k0_t3
  let c128_i32 : BitVec 32 := 128#32
  let v13 : BitVec 32 := Scalar.muli arg9 c128_i32
  let v14 : BitVec 32 := v13
  let v15 : Index := Scalar.indexCast v14
  ![256, v15.toNat]
def k0_off10 (k0_t3 : Fin k0_t3_loop.trips) : Fin 2 → Nat :=
  let c0_26 : Index := 0#32
  let c0_i32_7 : BitVec 32 := 0#32
  let c1_i32_9 : BitVec 32 := 1#32
  let arg9 : BitVec 32 := Scf.iv c0_i32_7 c1_i32_9 k0_t3
  let c128_i32 : BitVec 32 := 128#32
  let v13 : BitVec 32 := Scalar.muli arg9 c128_i32
  let v14 : BitVec 32 := v13
  let v41 : Index := Scalar.indexCast v14
  ![0, v41.toNat]
def k0_off11 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c128_i32 : BitVec 32 := 128#32
  let v13 : BitVec 32 := Scalar.muli arg9 c128_i32
  let v14 : BitVec 32 := v13
  let v150 : Index := Scalar.indexCast v14
  let c256_53 : Index := 256#32
  ![v150.toNat, 256]
def k0_off12 (k0_t3 : Fin k0_t3_loop.trips) : Fin 4 → Nat :=
  let c2 : Index := 2#32
  let c0_i32_7 : BitVec 32 := 0#32
  let c1_i32_9 : BitVec 32 := 1#32
  let arg9 : BitVec 32 := Scf.iv c0_i32_7 c1_i32_9 k0_t3
  let v157 : Index := Scalar.indexCast arg9
  let c0_56 : Index := 0#32
  let c0_57 : Index := 0#32
  ![2, v157.toNat, 0, 0]
@[reducible] def k0_t4_loop : Scf.Loop 32 :=
  let c0_i32_11 : BitVec 32 := 0#32
  let c8_i32_12 : BitVec 32 := 8#32
  let v6 : BitVec 32 := Scalar.addi c0_i32_11 c8_i32_12
  let c1_i32_13 : BitVec 32 := 1#32
  ⟨c0_i32_11, v6, c1_i32_13⟩
def k0_mult4 (k0_t4 : Fin k0_t4_loop.trips) : BitVec 32 :=
  let c0_i32_11 : BitVec 32 := 0#32
  let c1_i32_13 : BitVec 32 := 1#32
  let arg9 : BitVec 32 := Scf.iv c0_i32_11 c1_i32_13 k0_t4
  let c128_i32 : BitVec 32 := 128#32
  let v13 : BitVec 32 := Scalar.muli arg9 c128_i32
  v13
def k0_off13 (k0_t4 : Fin k0_t4_loop.trips) : Fin 2 → Nat :=
  let c384 : Index := 384#32
  let c0_i32_11 : BitVec 32 := 0#32
  let c1_i32_13 : BitVec 32 := 1#32
  let arg9 : BitVec 32 := Scf.iv c0_i32_11 c1_i32_13 k0_t4
  let c128_i32 : BitVec 32 := 128#32
  let v13 : BitVec 32 := Scalar.muli arg9 c128_i32
  let v14 : BitVec 32 := v13
  let v15 : Index := Scalar.indexCast v14
  ![384, v15.toNat]
def k0_off14 (k0_t4 : Fin k0_t4_loop.trips) : Fin 2 → Nat :=
  let c0_26 : Index := 0#32
  let c0_i32_11 : BitVec 32 := 0#32
  let c1_i32_13 : BitVec 32 := 1#32
  let arg9 : BitVec 32 := Scf.iv c0_i32_11 c1_i32_13 k0_t4
  let c128_i32 : BitVec 32 := 128#32
  let v13 : BitVec 32 := Scalar.muli arg9 c128_i32
  let v14 : BitVec 32 := v13
  let v41 : Index := Scalar.indexCast v14
  ![0, v41.toNat]
def k0_off15 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c128_i32 : BitVec 32 := 128#32
  let v13 : BitVec 32 := Scalar.muli arg9 c128_i32
  let v14 : BitVec 32 := v13
  let v150 : Index := Scalar.indexCast v14
  let c384_53 : Index := 384#32
  ![v150.toNat, 384]
def k0_off16 (k0_t4 : Fin k0_t4_loop.trips) : Fin 4 → Nat :=
  let c3 : Index := 3#32
  let c0_i32_11 : BitVec 32 := 0#32
  let c1_i32_13 : BitVec 32 := 1#32
  let arg9 : BitVec 32 := Scf.iv c0_i32_11 c1_i32_13 k0_t4
  let v157 : Index := Scalar.indexCast arg9
  let c0_56 : Index := 0#32
  let c0_57 : Index := 0#32
  ![3, v157.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "gelu_kc" => some (((6693141 / 8388608) * (12003091 / 268435456) : ℝ) : EReal)
  | _ => none
-- ==== ReferenceIdeal.lean ====
abbrev S25600x5120 : Shape := ⟨2, ![25600, 5120]⟩
abbrev S_ : Shape := ⟨0, ![]⟩
abbrev S5120 : Shape := ⟨1, ![5120]⟩
abbrev S200x128x5120 : Shape := ⟨3, ![200, 128, 5120]⟩
abbrev S200x5120 : Shape := ⟨2, ![200, 5120]⟩
abbrev S200x40x128 : Shape := ⟨3, ![200, 40, 128]⟩
abbrev S200x40 : Shape := ⟨2, ![200, 40]⟩
abbrev S200x40x1 : Shape := ⟨3, ![200, 40, 1]⟩
abbrev S200x1x5120 : Shape := ⟨3, ![200, 1, 5120]⟩
abbrev S1x5120 : Shape := ⟨2, ![1, 5120]⟩
abbrev S200x40x1x1 : Shape := ⟨4, ![200, 40, 1, 1]⟩
abbrev S200x40x8x128 : Shape := ⟨4, ![200, 40, 8, 128]⟩
abbrev S5120x25600 : Shape := ⟨2, ![5120, 25600]⟩

abbrev nBuf : Space → Nat
  | .hbm => 96
  | .vmem => 3
  | .smem => 0
  | _ => 0

abbrev bufTy : (tb : Table) → Fin (tcTables nBuf tb) → BufTy
  | .hbm, ⟨0, _⟩ => ⟨S25600x5120, .bf16⟩
  | .hbm, ⟨1, _⟩ => ⟨S25600x5120, .bf16⟩
  | .hbm, ⟨2, _⟩ => ⟨S25600x5120, .f32⟩
  | .hbm, ⟨3, _⟩ => ⟨S25600x5120, .f32⟩
  | .hbm, ⟨4, _⟩ => ⟨S_, .f32⟩
  | .hbm, ⟨5, _⟩ => ⟨S25600x5120, .f32⟩
  | .hbm, ⟨6, _⟩ => ⟨S25600x5120, .f32⟩
  | .hbm, ⟨7, _⟩ => ⟨S25600x5120, .f32⟩
  | .hbm, ⟨8, _⟩ => ⟨S25600x5120, .f32⟩
  | .hbm, ⟨9, _⟩ => ⟨S25600x5120, .f32⟩
  | .hbm, ⟨10, _⟩ => ⟨S_, .f32⟩
  | .hbm, ⟨11, _⟩ => ⟨S25600x5120, .f32⟩
  | .hbm, ⟨12, _⟩ => ⟨S25600x5120, .f32⟩
  | .hbm, ⟨13, _⟩ => ⟨S25600x5120, .f32⟩
  | .hbm, ⟨14, _⟩ => ⟨S_, .f32⟩
  | .hbm, ⟨15, _⟩ => ⟨S25600x5120, .f32⟩
  | .hbm, ⟨16, _⟩ => ⟨S25600x5120, .f32⟩
  | .hbm, ⟨17, _⟩ => ⟨S_, .f32⟩
  | .hbm, ⟨18, _⟩ => ⟨S25600x5120, .f32⟩
  | .hbm, ⟨19, _⟩ => ⟨S25600x5120, .f32⟩
  | .hbm, ⟨20, _⟩ => ⟨S_, .f32⟩
  | .hbm, ⟨21, _⟩ => ⟨S25600x5120, .f32⟩
  | .hbm, ⟨22, _⟩ => ⟨S25600x5120, .f32⟩
  | .hbm, ⟨23, _⟩ => ⟨S25600x5120, .f32⟩
  | .hbm, ⟨24, _⟩ => ⟨S_, .f32⟩
  | .hbm, ⟨25, _⟩ => ⟨S25600x5120, .f32⟩
  | .hbm, ⟨26, _⟩ => ⟨S25600x5120, .f32⟩
  | .hbm, ⟨27, _⟩ => ⟨S25600x5120, .f32⟩
  | .hbm, ⟨28, _⟩ => ⟨S_, .f32⟩
  | .hbm, ⟨29, _⟩ => ⟨S25600x5120, .f32⟩
  | .hbm, ⟨30, _⟩ => ⟨S25600x5120, .f32⟩
  | .hbm, ⟨31, _⟩ => ⟨S_, .f32⟩
  | .hbm, ⟨32, _⟩ => ⟨S25600x5120, .f32⟩
  | .hbm, ⟨33, _⟩ => ⟨S25600x5120, .f32⟩
  | .hbm, ⟨34, _⟩ => ⟨S25600x5120, .f32⟩
  | .hbm, ⟨35, _⟩ => ⟨S_, .f32⟩
  | .hbm, ⟨36, _⟩ => ⟨S25600x5120, .f32⟩
  | .hbm, ⟨37, _⟩ => ⟨S25600x5120, .f32⟩
  | .hbm, ⟨38, _⟩ => ⟨S_, .f32⟩
  | .hbm, ⟨39, _⟩ => ⟨S25600x5120, .f32⟩
  | .hbm, ⟨40, _⟩ => ⟨S25600x5120, .f32⟩
  | .hbm, ⟨41, _⟩ => ⟨S25600x5120, .f32⟩
  | .hbm, ⟨42, _⟩ => ⟨S25600x5120, .f32⟩
  | .hbm, ⟨43, _⟩ => ⟨S25600x5120, .f32⟩
  | .hbm, ⟨44, _⟩ => ⟨S_, .f32⟩
  | .hbm, ⟨45, _⟩ => ⟨S5120, .f32⟩
  | .hbm, ⟨46, _⟩ => ⟨S200x128x5120, .f32⟩
  | .hbm, ⟨47, _⟩ => ⟨S200x128x5120, .f32⟩
  | .hbm, ⟨48, _⟩ => ⟨S_, .f32⟩
  | .hbm, ⟨49, _⟩ => ⟨S200x5120, .f32⟩
  | .hbm, ⟨50, _⟩ => ⟨S200x40x128, .f32⟩
  | .hbm, ⟨51, _⟩ => ⟨S_, .f32⟩
  | .hbm, ⟨52, _⟩ => ⟨S200x40, .f32⟩
  | .hbm, ⟨53, _⟩ => ⟨S_, .f32⟩
  | .hbm, ⟨54, _⟩ => ⟨S200x40, .f32⟩
  | .hbm, ⟨55, _⟩ => ⟨S200x40, .f32⟩
  | .hbm, ⟨56, _⟩ => ⟨S200x40, .f32⟩
  | .hbm, ⟨57, _⟩ => ⟨S_, .f32⟩
  | .hbm, ⟨58, _⟩ => ⟨S_, .f32⟩
  | .hbm, ⟨59, _⟩ => ⟨S200x40, .f32⟩
  | .hbm, ⟨60, _⟩ => ⟨S200x40, .f32⟩
  | .hbm, ⟨61, _⟩ => ⟨S200x40, .f32⟩
  | .hbm, ⟨62, _⟩ => ⟨S_, .f32⟩
  | .hbm, ⟨63, _⟩ => ⟨S200x40, .f32⟩
  | .hbm, ⟨64, _⟩ => ⟨S200x40, .f32⟩
  | .hbm, ⟨65, _⟩ => ⟨S_, .f32⟩
  | .hbm, ⟨66, _⟩ => ⟨S200x40, .f32⟩
  | .hbm, ⟨67, _⟩ => ⟨S200x40, .i1⟩
  | .hbm, ⟨68, _⟩ => ⟨S_, .f32⟩
  | .hbm, ⟨69, _⟩ => ⟨S200x40, .f32⟩
  | .hbm, ⟨70, _⟩ => ⟨S200x40, .f32⟩
  | .hbm, ⟨71, _⟩ => ⟨S_, .f32⟩
  | .hbm, ⟨72, _⟩ => ⟨S200x40, .f32⟩
  | .hbm, ⟨73, _⟩ => ⟨S200x40, .f32⟩
  | .hbm, ⟨74, _⟩ => ⟨S200x40, .f32⟩
  | .hbm, ⟨75, _⟩ => ⟨S200x40, .f32⟩
  | .hbm, ⟨76, _⟩ => ⟨S200x40x1, .f32⟩
  | .hbm, ⟨77, _⟩ => ⟨S200x40x128, .f32⟩
  | .hbm, ⟨78, _⟩ => ⟨S200x5120, .f32⟩
  | .hbm, ⟨79, _⟩ => ⟨S200x1x5120, .f32⟩
  | .hbm, ⟨80, _⟩ => ⟨S200x128x5120, .f32⟩
  | .hbm, ⟨81, _⟩ => ⟨S200x128x5120, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S200x128x5120, .f32⟩
  | .hbm, ⟨86, _⟩ => ⟨S200x128x5120, .f32⟩
  | .hbm, ⟨87, _⟩ => ⟨S_, .f32⟩
  | .hbm, ⟨88, _⟩ => ⟨S200x128x5120, .f32⟩
  | .hbm, ⟨89, _⟩ => ⟨S200x128x5120, .f32⟩
  | .hbm, ⟨90, _⟩ => ⟨S25600x5120, .f32⟩
  | .hbm, ⟨91, _⟩ => ⟨S1x5120, .f32⟩
  | .hbm, ⟨92, _⟩ => ⟨S200x40x1x1, .f32⟩
  | .hbm, ⟨93, _⟩ => ⟨S200x40x8x128, .f32⟩
  | .hbm, ⟨94, _⟩ => ⟨S25600x5120, .fp8e5m2⟩
  | .hbm, ⟨95, _⟩ => ⟨S5120x25600, .fp8e5m2⟩
  | .local _ .vmem, ⟨0, _⟩ => ⟨S25600x5120, .f32⟩
  | .local _ .vmem, ⟨1, _⟩ => ⟨S25600x5120, .fp8e5m2⟩
  | .local _ .vmem, ⟨2, _⟩ => ⟨S5120x25600, .fp8e5m2⟩
  | _, _ => ⟨S25600x5120, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_14 : Ref sig .tc := ⟨.hbm, 62, rfl⟩
abbrev main_v45 : Ref sig .tc := ⟨.hbm, 63, rfl⟩
abbrev main_v46 : Ref sig .tc := ⟨.hbm, 64, rfl⟩
abbrev main_cst_15 : Ref sig .tc := ⟨.hbm, 65, rfl⟩
abbrev main_v47 : Ref sig .tc := ⟨.hbm, 66, rfl⟩
abbrev main_v48 : Ref sig .tc := ⟨.hbm, 67, rfl⟩
abbrev main_cst_16 : Ref sig .tc := ⟨.hbm, 68, rfl⟩
abbrev main_v49 : Ref sig .tc := ⟨.hbm, 69, rfl⟩
abbrev main_v50 : Ref sig .tc := ⟨.hbm, 70, rfl⟩
abbrev main_cst_17 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_18 : Ref sig .tc := ⟨.hbm, 82, rfl⟩
abbrev main_cst_19 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66_0 : Ref sig .tc := ⟨.hbm, 94, rfl⟩
abbrev main_v66_1 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S25600x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S25600x5120 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x25600 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Loops.lean ====
/- The loops of the kernel body, with what they store in closed form. The body runs its column loop four times, once for each
   row of 128 x 128 blocks in the tile. The trip `k` of a loop reads one block of each input, and stores the block's codes, the
   transposed codes and the scale, and adds the block's column sums to the accumulator's columns `128 k …`. None of the stores
   depends on what an output held before, and the accumulator's columns are read as the loop found them, since each trip touches
   columns of its own. So the pieces after `k` trips are a plain list, and the loop invariant says just that. -/
module

public import proofs.«01_k».proof.Proof.Gen.Kernel.Loops

@[expose] public section

set_option maxRecDepth 16384
set_option maxHeartbeats 1000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The first `k` of `n` listed pieces, the last first. -/
def upto {s : Shape} {e : EltTy} {n : ℕ} (P : Fin n → View.Piece (Elt F) s e) : ℕ → List (View.Piece (Elt F) s e)
  | 0 => []
  | k + 1 => (if h : k < n then [P ⟨k, h⟩] else []) ++ upto P k

theorem upto_succ {s : Shape} {e : EltTy} {n : ℕ} (P : Fin n → View.Piece (Elt F) s e) (k : Fin n) :
    upto P (k.val + 1) = [P k] ++ upto P k.val := by
  rw [upto, dif_pos k.isLt]

theorem mem_upto {s : Shape} {e : EltTy} {n : ℕ} (P : Fin n → View.Piece (Elt F) s e) :
    ∀ (k : ℕ) (pc : View.Piece (Elt F) s e), pc ∈ upto P k → ∃ j : Fin n, j.val < k ∧ pc = P j
  | 0, pc, h => by simp [upto] at h
  | k + 1, pc, h => by
    rw [upto, List.mem_append] at h
    rcases h with h | h
    · split at h
      · rename_i hk
        rw [List.mem_singleton] at h
        exact ⟨⟨k, hk⟩, Nat.lt_succ_self k, h⟩
      · simp at h
    · obtain ⟨j, hj, e⟩ := mem_upto P k pc h
      exact ⟨j, hj.trans (Nat.lt_succ_self k), e⟩

/-! ## One block -/

/-- The block's exponent, from the block of the two inputs. -/
@[irreducible] def expB (v16 v19 : Vec F S128x128 .bf16) : IVec S8x128 32 :=
  k0_pay17 (k0_pay14 (k0_pay13 v16 v19)) (k0_pay15 (k0_pay13 v16 v19)) (k0_pay16 (k0_pay13 v16 v19)) 23#32

/-- The block's codes. -/
@[irreducible] def codeB (v16 v19 : Vec F S128x128 .bf16) : FVec F S128x128 .fp8e5m2 :=
  k0_pay18 (k0_pay11 v16 v19) (k0_pay14 (k0_pay13 v16 v19)) (k0_pay15 (k0_pay13 v16 v19)) (k0_pay16 (k0_pay13 v16 v19)) 23#32

/-- The block's codes, transposed. -/
@[irreducible] def codeTB (v16 v19 : Vec F S128x128 .bf16) : FVec F S128x128 .fp8e5m2 := k0_pay2 (codeB v16 v19)

/-- The block's scale. -/
@[irreducible] def scaleB (v16 v19 : Vec F S128x128 .bf16) : FVec F S1x1x8x128 .f32 := k0_pay3 (expB v16 v19)

/-- The accumulator's columns with the block's column sums added. -/
@[irreducible] def accB (v16 v19 : Vec F S128x128 .bf16) (v42 : Vec F S8x128 .f32) : FVec F S8x128 .f32 := k0_pay12 v16 v19 v42

/-! ## Loop 1 -/

/-- The block of an input that trip `k` reads. -/
abbrev in_k0_t1 (m : Memref sig .tc .vmem S512x1024 .bf16) (X : BufTy.Contents (Elt F) m.view.ty) (k : Fin k0_t1_loop.trips) : Vec F S128x128 .bf16 :=
  View.readAt (Elt F) m.view (Rect.unit (s := S512x1024) (k0_off1 k) S128x128.size (k0_off1_inb k)).toLoadRect X

def p5_k0_t1 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t1_loop.trips) : View.Piece (Elt F) S512x1024 .fp8e5m2 :=
  ⟨Rect.unit (s := S512x1024) (k0_off1 k) S128x128.size (k0_off1_inb k), codeB (in_k0_t1 arg2 X_arg2 k) (in_k0_t1 arg3 X_arg3 k)⟩
def p6_k0_t1 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t1_loop.trips) : View.Piece (Elt F) S1024x512 .fp8e5m2 :=
  ⟨Rect.unit (s := S1024x512) (k0_off3 k) S128x128.size (k0_off3_inb k), codeTB (in_k0_t1 arg2 X_arg2 k) (in_k0_t1 arg3 X_arg3 k)⟩
def p7_k0_t1 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t1_loop.trips) : View.Piece (Elt F) S4x8x8x128 .f32 :=
  ⟨Rect.unit (s := S4x8x8x128) (k0_off4 k) S1x1x8x128.size (k0_off4_inb k), scaleB (in_k0_t1 arg2 X_arg2 k) (in_k0_t1 arg3 X_arg3 k)⟩
def p8_k0_t1 (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t1_loop.trips) : View.Piece (Elt F) S8x1024 .f32 :=
  ⟨Rect.unit (s := S8x1024) (k0_off2 k) S8x128.size (k0_off2_inb k), accB (in_k0_t1 arg2 X_arg2 k) (in_k0_t1 arg3 X_arg3 k)
    (View.readAt (Elt F) arg8.view (Rect.unit (s := S8x1024) (k0_off2 k) S8x128.size (k0_off2_inb k)).toLoadRect G)⟩

/-- What one trip stores. -/
theorem tripL_k0_t1_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (k : Fin k0_t1_loop.trips)
    (f5 : BufTy.Contents (Elt F) arg5.view.ty) (f6 : BufTy.Contents (Elt F) arg6.view.ty) (f7 : BufTy.Contents (Elt F) arg7.view.ty) (f8 : BufTy.Contents (Elt F) arg8.view.ty) :
    tripL_k0_t1 (F := F) 𝒱 c bd i arg2 harg2 arg3 harg3 arg4 harg4 arg5 harg5 arg6 harg6 arg7 harg7 arg8 harg8 X_arg2 X_arg3 k f5 f6 f7 f8
      = ([p5_k0_t1 arg2 arg3 X_arg2 X_arg3 k], [p6_k0_t1 arg2 arg3 X_arg2 X_arg3 k], [p7_k0_t1 arg2 arg3 X_arg2 X_arg3 k], [p8_k0_t1 arg2 arg3 X_arg2 X_arg3 arg8 f8 k]) := by
  unfold tripL_k0_t1 trip_k0_t1 p5_k0_t1 p6_k0_t1 p7_k0_t1 p8_k0_t1 codeTB scaleB codeB expB accB
  rfl

/-- Two trips touch different columns of the accumulator. -/
theorem col_k0_t1 (k j : Fin k0_t1_loop.trips) (h : j.val < k.val) (y : S8x1024.Idx)
    (hy : y ∈ (Rect.unit (s := S8x1024) (k0_off2 k) S8x128.size (k0_off2_inb k)).set) :
    y ∉ (Rect.unit (s := S8x1024) (k0_off2 j) S8x128.size (k0_off2_inb j)).set := by
  intro hy'
  rw [Rect.mem_set_unit] at hy hy'
  have h1 := (hy 1).1
  have h2 := (hy' 1).2
  rw [k0_off2_eq] at h1 h2
  have e1 : (![0, 128 * k.val] : Fin 2 → ℕ) 1 = 128 * k.val := rfl
  have e2 : (![0, 128 * j.val] : Fin 2 → ℕ) 1 = 128 * j.val := rfl
  have e3 : S8x128.size 1 = 128 := rfl
  simp only [Matrix.cons_val_one, Matrix.cons_val_fin_one, e3] at h1 h2
  omega

/-- A trip reads the accumulator as the loop found it. -/
theorem p8_k0_t1_writes (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t1_loop.trips) :
    p8_k0_t1 arg2 arg3 X_arg2 X_arg3 arg8 (arg8.view.writes (Elt F) G (upto (p8_k0_t1 arg2 arg3 X_arg2 X_arg3 arg8 G) k.val)) k = p8_k0_t1 arg2 arg3 X_arg2 X_arg3 arg8 G k := by
  unfold p8_k0_t1
  rw [View.readAt_writes_of_forall_not_mem]
  intro y pc hpc hy
  obtain ⟨j, hj, rfl⟩ := mem_upto _ _ _ hpc
  exact col_k0_t1 k j hj _ (LoadRect.idx_mem _ y) hy

/-- What the trips before `k` store. -/
theorem pb_k0_t1_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    ∀ k : ℕ, pb_k0_t1 (F := F) 𝒱 c bd i arg2 harg2 arg3 harg3 arg4 harg4 arg5 harg5 arg6 harg6 arg7 harg7 arg8 harg8 X_arg2 X_arg3 G_arg5 G_arg6 G_arg7 G_arg8 k
      = (upto (p5_k0_t1 arg2 arg3 X_arg2 X_arg3) k, upto (p6_k0_t1 arg2 arg3 X_arg2 X_arg3) k, upto (p7_k0_t1 arg2 arg3 X_arg2 X_arg3) k, upto (p8_k0_t1 arg2 arg3 X_arg2 X_arg3 arg8 G_arg8) k)
  | 0 => rfl
  | k + 1 => by
    by_cases h : k < k0_t1_loop.trips
    · refine (pb_k0_t1_succ (F := F) 𝒱 c bd i arg2 harg2 arg3 harg3 arg4 harg4 arg5 harg5 arg6 harg6 arg7 harg7 arg8 harg8 X_arg2 X_arg3 G_arg5 G_arg6 G_arg7 G_arg8 ⟨k, h⟩).trans ?_
      rw [pb_k0_t1_eq 𝒱 c bd i arg2 harg2 arg3 harg3 arg4 harg4 arg5 harg5 arg6 harg6 arg7 harg7 arg8 harg8 X_arg2 X_arg3 G_arg5 G_arg6 G_arg7 G_arg8 k, tripL_k0_t1_eq]
      dsimp only
      rw [p8_k0_t1_writes arg2 arg3 X_arg2 X_arg3 arg8 G_arg8 ⟨k, h⟩]
      rw [← upto_succ _ ⟨k, h⟩, ← upto_succ _ ⟨k, h⟩, ← upto_succ _ ⟨k, h⟩, ← upto_succ _ ⟨k, h⟩]
    · rw [pb_k0_t1.eq_2]
      unfold pb_k0_t1Step
      rw [dif_neg h, pb_k0_t1_eq 𝒱 c bd i arg2 harg2 arg3 harg3 arg4 harg4 arg5 harg5 arg6 harg6 arg7 harg7 arg8 harg8 X_arg2 X_arg3 G_arg5 G_arg6 G_arg7 G_arg8 k]
      simp only [upto, dif_neg h, List.nil_append]

/-- The invariant before trip `k`, in closed form. -/
abbrev cinv_k0_t1 (c : Dev nD) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (upto (p5_k0_t1 arg2 arg3 X_arg2 X_arg3) k)⌝) ∗ (∃ f, (arg6.view.loc (c : Thread nD τ) ↦[arg6.view.set]{fullShare} f) ∗ ⌜f = arg6.view.writes (Elt F) G_arg6 (upto (p6_k0_t1 arg2 arg3 X_arg2 X_arg3) k)⌝) ∗ (∃ f, (arg7.view.loc (c : Thread nD τ) ↦[arg7.view.set]{fullShare} f) ∗ ⌜f = arg7.view.writes (Elt F) G_arg7 (upto (p7_k0_t1 arg2 arg3 X_arg2 X_arg3) k)⌝) ∗ (∃ f, (arg8.view.loc (c : Thread nD τ) ↦[arg8.view.set]{fullShare} f) ∗ ⌜f = arg8.view.writes (Elt F) G_arg8 (upto (p8_k0_t1 arg2 arg3 X_arg2 X_arg3 arg8 G_arg8) k)⌝))

theorem cinv_k0_t1_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    inv_k0_t1 (F := F) 𝒱 c bd i arg2 harg2 arg3 harg3 arg4 harg4 arg5 harg5 arg6 harg6 arg7 harg7 arg8 harg8 X_arg2 X_arg3 G_arg5 G_arg6 G_arg7 G_arg8
      = cinv_k0_t1 (F := F) c arg2 harg2 arg3 harg3 arg4 harg4 arg5 harg5 arg6 harg6 arg7 harg7 arg8 harg8 X_arg2 X_arg3 G_arg5 G_arg6 G_arg7 G_arg8 := by
  funext k u
  unfold inv_k0_t1 cinv_k0_t1
  rw [pb_k0_t1_eq]

set_option warn.classDefReducibility false in
/-- The loop by its closed invariant, with the generated instance's step. Its type is the loop's class written out, so that
the generated instance, from which the step is taken, is stated beside it. -/
@[sl_loop] def closedInv_k0_t1 (𝒱 : Variants) (c : Dev nD) (bd : Option 𝒱.V) (E : Set ℕ) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    Idealize.ShloMosaic.LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8) where
  inv := cinv_k0_t1 (F := F) c arg2 harg2 arg3 harg3 arg4 harg4 arg5 harg5 arg6 harg6 arg7 harg7 arg8 harg8 X_arg2 X_arg3 G_arg5 G_arg6 G_arg7 G_arg8
  step := by
    rw [← cinv_k0_t1_eq 𝒱 c bd i]
    exact (loopInv_k0_t1 (F := F) 𝒱 c bd E i arg2 harg2 arg3 harg3 arg4 harg4 arg5 harg5 arg6 harg6 arg7 harg7 arg8 harg8 X_arg2 X_arg3 G_arg5 G_arg6 G_arg7 G_arg8).step

/-! ## Loop 2 -/

/-- The block of an input that trip `k` reads. -/
abbrev in_k0_t2 (m : Memref sig .tc .vmem S512x1024 .bf16) (X : BufTy.Contents (Elt F) m.view.ty) (k : Fin k0_t2_loop.trips) : Vec F S128x128 .bf16 :=
  View.readAt (Elt F) m.view (Rect.unit (s := S512x1024) (k0_off5 k) S128x128.size (k0_off5_inb k)).toLoadRect X

def p5_k0_t2 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t2_loop.trips) : View.Piece (Elt F) S512x1024 .fp8e5m2 :=
  ⟨Rect.unit (s := S512x1024) (k0_off5 k) S128x128.size (k0_off5_inb k), codeB (in_k0_t2 arg2 X_arg2 k) (in_k0_t2 arg3 X_arg3 k)⟩
def p6_k0_t2 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t2_loop.trips) : View.Piece (Elt F) S1024x512 .fp8e5m2 :=
  ⟨Rect.unit (s := S1024x512) (k0_off7 k) S128x128.size (k0_off7_inb k), codeTB (in_k0_t2 arg2 X_arg2 k) (in_k0_t2 arg3 X_arg3 k)⟩
def p7_k0_t2 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t2_loop.trips) : View.Piece (Elt F) S4x8x8x128 .f32 :=
  ⟨Rect.unit (s := S4x8x8x128) (k0_off8 k) S1x1x8x128.size (k0_off8_inb k), scaleB (in_k0_t2 arg2 X_arg2 k) (in_k0_t2 arg3 X_arg3 k)⟩
def p8_k0_t2 (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t2_loop.trips) : View.Piece (Elt F) S8x1024 .f32 :=
  ⟨Rect.unit (s := S8x1024) (k0_off6 k) S8x128.size (k0_off6_inb k), accB (in_k0_t2 arg2 X_arg2 k) (in_k0_t2 arg3 X_arg3 k)
    (View.readAt (Elt F) arg8.view (Rect.unit (s := S8x1024) (k0_off6 k) S8x128.size (k0_off6_inb k)).toLoadRect G)⟩

/-- What one trip stores. -/
theorem tripL_k0_t2_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (k : Fin k0_t2_loop.trips)
    (f5 : BufTy.Contents (Elt F) arg5.view.ty) (f6 : BufTy.Contents (Elt F) arg6.view.ty) (f7 : BufTy.Contents (Elt F) arg7.view.ty) (f8 : BufTy.Contents (Elt F) arg8.view.ty) :
    tripL_k0_t2 (F := F) 𝒱 c bd i arg2 harg2 arg3 harg3 arg4 harg4 arg5 harg5 arg6 harg6 arg7 harg7 arg8 harg8 X_arg2 X_arg3 k f5 f6 f7 f8
      = ([p5_k0_t2 arg2 arg3 X_arg2 X_arg3 k], [p6_k0_t2 arg2 arg3 X_arg2 X_arg3 k], [p7_k0_t2 arg2 arg3 X_arg2 X_arg3 k], [p8_k0_t2 arg2 arg3 X_arg2 X_arg3 arg8 f8 k]) := by
  unfold tripL_k0_t2 trip_k0_t2 p5_k0_t2 p6_k0_t2 p7_k0_t2 p8_k0_t2 codeTB scaleB codeB expB accB
  rfl

/-- Two trips touch different columns of the accumulator. -/
theorem col_k0_t2 (k j : Fin k0_t2_loop.trips) (h : j.val < k.val) (y : S8x1024.Idx)
    (hy : y ∈ (Rect.unit (s := S8x1024) (k0_off6 k) S8x128.size (k0_off6_inb k)).set) :
    y ∉ (Rect.unit (s := S8x1024) (k0_off6 j) S8x128.size (k0_off6_inb j)).set := by
  intro hy'
  rw [Rect.mem_set_unit] at hy hy'
  have h1 := (hy 1).1
  have h2 := (hy' 1).2
  rw [k0_off6_eq] at h1 h2
  have e1 : (![0, 128 * k.val] : Fin 2 → ℕ) 1 = 128 * k.val := rfl
  have e2 : (![0, 128 * j.val] : Fin 2 → ℕ) 1 = 128 * j.val := rfl
  have e3 : S8x128.size 1 = 128 := rfl
  simp only [Matrix.cons_val_one, Matrix.cons_val_fin_one, e3] at h1 h2
  omega

/-- A trip reads the accumulator as the loop found it. -/
theorem p8_k0_t2_writes (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t2_loop.trips) :
    p8_k0_t2 arg2 arg3 X_arg2 X_arg3 arg8 (arg8.view.writes (Elt F) G (upto (p8_k0_t2 arg2 arg3 X_arg2 X_arg3 arg8 G) k.val)) k = p8_k0_t2 arg2 arg3 X_arg2 X_arg3 arg8 G k := by
  unfold p8_k0_t2
  rw [View.readAt_writes_of_forall_not_mem]
  intro y pc hpc hy
  obtain ⟨j, hj, rfl⟩ := mem_upto _ _ _ hpc
  exact col_k0_t2 k j hj _ (LoadRect.idx_mem _ y) hy

/-- What the trips before `k` store. -/
theorem pb_k0_t2_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    ∀ k : ℕ, pb_k0_t2 (F := F) 𝒱 c bd i arg2 harg2 arg3 harg3 arg4 harg4 arg5 harg5 arg6 harg6 arg7 harg7 arg8 harg8 X_arg2 X_arg3 G_arg5 G_arg6 G_arg7 G_arg8 k
      = (upto (p5_k0_t2 arg2 arg3 X_arg2 X_arg3) k, upto (p6_k0_t2 arg2 arg3 X_arg2 X_arg3) k, upto (p7_k0_t2 arg2 arg3 X_arg2 X_arg3) k, upto (p8_k0_t2 arg2 arg3 X_arg2 X_arg3 arg8 G_arg8) k)
  | 0 => rfl
  | k + 1 => by
    by_cases h : k < k0_t2_loop.trips
    · refine (pb_k0_t2_succ (F := F) 𝒱 c bd i arg2 harg2 arg3 harg3 arg4 harg4 arg5 harg5 arg6 harg6 arg7 harg7 arg8 harg8 X_arg2 X_arg3 G_arg5 G_arg6 G_arg7 G_arg8 ⟨k, h⟩).trans ?_
      rw [pb_k0_t2_eq 𝒱 c bd i arg2 harg2 arg3 harg3 arg4 harg4 arg5 harg5 arg6 harg6 arg7 harg7 arg8 harg8 X_arg2 X_arg3 G_arg5 G_arg6 G_arg7 G_arg8 k, tripL_k0_t2_eq]
      dsimp only
      rw [p8_k0_t2_writes arg2 arg3 X_arg2 X_arg3 arg8 G_arg8 ⟨k, h⟩]
      rw [← upto_succ _ ⟨k, h⟩, ← upto_succ _ ⟨k, h⟩, ← upto_succ _ ⟨k, h⟩, ← upto_succ _ ⟨k, h⟩]
    · rw [pb_k0_t2.eq_2]
      unfold pb_k0_t2Step
      rw [dif_neg h, pb_k0_t2_eq 𝒱 c bd i arg2 harg2 arg3 harg3 arg4 harg4 arg5 harg5 arg6 harg6 arg7 harg7 arg8 harg8 X_arg2 X_arg3 G_arg5 G_arg6 G_arg7 G_arg8 k]
      simp only [upto, dif_neg h, List.nil_append]

/-- The invariant before trip `k`, in closed form. -/
abbrev cinv_k0_t2 (c : Dev nD) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (upto (p5_k0_t2 arg2 arg3 X_arg2 X_arg3) k)⌝) ∗ (∃ f, (arg6.view.loc (c : Thread nD τ) ↦[arg6.view.set]{fullShare} f) ∗ ⌜f = arg6.view.writes (Elt F) G_arg6 (upto (p6_k0_t2 arg2 arg3 X_arg2 X_arg3) k)⌝) ∗ (∃ f, (arg7.view.loc (c : Thread nD τ) ↦[arg7.view.set]{fullShare} f) ∗ ⌜f = arg7.view.writes (Elt F) G_arg7 (upto (p7_k0_t2 arg2 arg3 X_arg2 X_arg3) k)⌝) ∗ (∃ f, (arg8.view.loc (c : Thread nD τ) ↦[arg8.view.set]{fullShare} f) ∗ ⌜f = arg8.view.writes (Elt F) G_arg8 (upto (p8_k0_t2 arg2 arg3 X_arg2 X_arg3 arg8 G_arg8) k)⌝))

theorem cinv_k0_t2_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    inv_k0_t2 (F := F) 𝒱 c bd i arg2 harg2 arg3 harg3 arg4 harg4 arg5 harg5 arg6 harg6 arg7 harg7 arg8 harg8 X_arg2 X_arg3 G_arg5 G_arg6 G_arg7 G_arg8
      = cinv_k0_t2 (F := F) c arg2 harg2 arg3 harg3 arg4 harg4 arg5 harg5 arg6 harg6 arg7 harg7 arg8 harg8 X_arg2 X_arg3 G_arg5 G_arg6 G_arg7 G_arg8 := by
  funext k u
  unfold inv_k0_t2 cinv_k0_t2
  rw [pb_k0_t2_eq]

set_option warn.classDefReducibility false in
/-- The loop by its closed invariant, with the generated instance's step. Its type is the loop's class written out, so that
the generated instance, from which the step is taken, is stated beside it. -/
@[sl_loop] def closedInv_k0_t2 (𝒱 : Variants) (c : Dev nD) (bd : Option 𝒱.V) (E : Set ℕ) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    Idealize.ShloMosaic.LoopInv (M := MT nD τ sig Unit (Elt F) ℕ (UR sig nD τ) ℕ) Idealize.ShloMosaic.frame (wpE defs₀ 𝒱 (c : Thread nD τ) bd) E
      k0_t2_loop.lb k0_t2_loop.ub k0_t2_loop.st k0_t2_ok () (k0_t2_body (F := F) i arg2 harg2 arg3 harg3 arg4 harg4 arg5 harg5 arg6 harg6 arg7 harg7 arg8 harg8) where
  inv := cinv_k0_t2 (F := F) c arg2 harg2 arg3 harg3 arg4 harg4 arg5 harg5 arg6 harg6 arg7 harg7 arg8 harg8 X_arg2 X_arg3 G_arg5 G_arg6 G_arg7 G_arg8
  step := by
    rw [← cinv_k0_t2_eq 𝒱 c bd i]
    exact (loopInv_k0_t2 (F := F) 𝒱 c bd E i arg2 harg2 arg3 harg3 arg4 harg4 arg5 harg5 arg6 harg6 arg7 harg7 arg8 harg8 X_arg2 X_arg3 G_arg5 G_arg6 G_arg7 G_arg8).step

/-! ## Loop 3 -/

/-- The block of an input that trip `k` reads. -/
abbrev in_k0_t3 (m : Memref sig .tc .vmem S512x1024 .bf16) (X : BufTy.Contents (Elt F) m.view.ty) (k : Fin k0_t3_loop.trips) : Vec F S128x128 .bf16 :=
  View.readAt (Elt F) m.view (Rect.unit (s := S512x1024) (k0_off9 k) S128x128.size (k0_off9_inb k)).toLoadRect X

def p5_k0_t3 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t3_loop.trips) : View.Piece (Elt F) S512x1024 .fp8e5m2 :=
  ⟨Rect.unit (s := S512x1024) (k0_off9 k) S128x128.size (k0_off9_inb k), codeB (in_k0_t3 arg2 X_arg2 k) (in_k0_t3 arg3 X_arg3 k)⟩
def p6_k0_t3 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t3_loop.trips) : View.Piece (Elt F) S1024x512 .fp8e5m2 :=
  ⟨Rect.unit (s := S1024x512) (k0_off11 k) S128x128.size (k0_off11_inb k), codeTB (in_k0_t3 arg2 X_arg2 k) (in_k0_t3 arg3 X_arg3 k)⟩
def p7_k0_t3 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t3_loop.trips) : View.Piece (Elt F) S4x8x8x128 .f32 :=
  ⟨Rect.unit (s := S4x8x8x128) (k0_off12 k) S1x1x8x128.size (k0_off12_inb k), scaleB (in_k0_t3 arg2 X_arg2 k) (in_k0_t3 arg3 X_arg3 k)⟩
def p8_k0_t3 (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t3_loop.trips) : View.Piece (Elt F) S8x1024 .f32 :=
  ⟨Rect.unit (s := S8x1024) (k0_off10 k) S8x128.size (k0_off10_inb k), accB (in_k0_t3 arg2 X_arg2 k) (in_k0_t3 arg3 X_arg3 k)
    (View.readAt (Elt F) arg8.view (Rect.unit (s := S8x1024) (k0_off10 k) S8x128.size (k0_off10_inb k)).toLoadRect G)⟩

/-- What one trip stores. -/
theorem tripL_k0_t3_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (k : Fin k0_t3_loop.trips)
    (f5 : BufTy.Contents (Elt F) arg5.view.ty) (f6 : BufTy.Contents (Elt F) arg6.view.ty) (f7 : BufTy.Contents (Elt F) arg7.view.ty) (f8 : BufTy.Contents (Elt F) arg8.view.ty) :
    tripL_k0_t3 (F := F) 𝒱 c bd i arg2 harg2 arg3 harg3 arg4 harg4 arg5 harg5 arg6 harg6 arg7 harg7 arg8 harg8 X_arg2 X_arg3 k f5 f6 f7 f8
      = ([p5_k0_t3 arg2 arg3 X_arg2 X_arg3 k], [p6_k0_t3 arg2 arg3 X_arg2 X_arg3 k], [p7_k0_t3 arg2 arg3 X_arg2 X_arg3 k], [p8_k0_t3 arg2 arg3 X_arg2 X_arg3 arg8 f8 k]) := by
  unfold tripL_k0_t3 trip_k0_t3 p5_k0_t3 p6_k0_t3 p7_k0_t3 p8_k0_t3 codeTB scaleB codeB expB accB
  rfl

/-- Two trips touch different columns of the accumulator. -/
theorem col_k0_t3 (k j : Fin k0_t3_loop.trips) (h : j.val < k.val) (y : S8x1024.Idx)
    (hy : y ∈ (Rect.unit (s := S8x1024) (k0_off10 k) S8x128.size (k0_off10_inb k)).set) :
    y ∉ (Rect.unit (s := S8x1024) (k0_off10 j) S8x128.size (k0_off10_inb j)).set := by
  intro hy'
  rw [Rect.mem_set_unit] at hy hy'
  have h1 := (hy 1).1
  have h2 := (hy' 1).2
  rw [k0_off10_eq] at h1 h2
  have e1 : (![0, 128 * k.val] : Fin 2 → ℕ) 1 = 128 * k.val := rfl
  have e2 : (![0, 128 * j.val] : Fin 2 → ℕ) 1 = 128 * j.val := rfl
  have e3 : S8x128.size 1 = 128 := rfl
  simp only [Matrix.cons_val_one, Matrix.cons_val_fin_one, e3] at h1 h2
  omega

/-- A trip reads the accumulator as the loop found it. -/
theorem p8_k0_t3_writes (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t3_loop.trips) :
    p8_k0_t3 arg2 arg3 X_arg2 X_arg3 arg8 (arg8.view.writes (Elt F) G (upto (p8_k0_t3 arg2 arg3 X_arg2 X_arg3 arg8 G) k.val)) k = p8_k0_t3 arg2 arg3 X_arg2 X_arg3 arg8 G k := by
  unfold p8_k0_t3
  rw [View.readAt_writes_of_forall_not_mem]
  intro y pc hpc hy
  obtain ⟨j, hj, rfl⟩ := mem_upto _ _ _ hpc
  exact col_k0_t3 k j hj _ (LoadRect.idx_mem _ y) hy

/-- What the trips before `k` store. -/
theorem pb_k0_t3_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    ∀ k : ℕ, pb_k0_t3 (F := F) 𝒱 c bd i arg2 harg2 arg3 harg3 arg4 harg4 arg5 harg5 arg6 harg6 arg7 harg7 arg8 harg8 X_arg2 X_arg3 G_arg5 G_arg6 G_arg7 G_arg8 k
      = (upto (p5_k0_t3 arg2 arg3 X_arg2 X_arg3) k, upto (p6_k0_t3 arg2 arg3 X_arg2 X_arg3) k, upto (p7_k0_t3 arg2 arg3 X_arg2 X_arg3) k, upto (p8_k0_t3 arg2 arg3 X_arg2 X_arg3 arg8 G_arg8) k)
  | 0 => rfl
  | k + 1 => by
    by_cases h : k < k0_t3_loop.trips
    · refine (pb_k0_t3_succ (F := F) 𝒱 c bd i arg2 harg2 arg3 harg3 arg4 harg4 arg5 harg5 arg6 harg6 arg7 harg7 arg8 harg8 X_arg2 X_arg3 G_arg5 G_arg6 G_arg7 G_arg8 ⟨k, h⟩).trans ?_
      rw [pb_k0_t3_eq 𝒱 c bd i arg2 harg2 arg3 harg3 arg4 harg4 arg5 harg5 arg6 harg6 arg7 harg7 arg8 harg8 X_arg2 X_arg3 G_arg5 G_arg6 G_arg7 G_arg8 k, tripL_k0_t3_eq]
      dsimp only
      rw [p8_k0_t3_writes arg2 arg3 X_arg2 X_arg3 arg8 G_arg8 ⟨k, h⟩]
      rw [← upto_succ _ ⟨k, h⟩, ← upto_succ _ ⟨k, h⟩, ← upto_succ _ ⟨k, h⟩, ← upto_succ _ ⟨k, h⟩]
    · rw [pb_k0_t3.eq_2]
      unfold pb_k0_t3Step
      rw [dif_neg h, pb_k0_t3_eq 𝒱 c bd i arg2 harg2 arg3 harg3 arg4 harg4 arg5 harg5 arg6 harg6 arg7 harg7 arg8 harg8 X_arg2 X_arg3 G_arg5 G_arg6 G_arg7 G_arg8 k]
      simp only [upto, dif_neg h, List.nil_append]

/-- The invariant before trip `k`, in closed form. -/
abbrev cinv_k0_t3 (c : Dev nD) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (upto (p5_k0_t3 arg2 arg3 X_arg2 X_arg3) k)⌝) ∗ (∃ f, (arg6.view.loc (c : Thread nD τ) ↦[arg6.view.set]{fullShare} f) ∗ ⌜f = arg6.view.writes (Elt F) G_arg6 (upto (p6_k0_t3 arg2 arg3 X_arg2 X_arg3) k)⌝) ∗ (∃ f, (arg7.view.loc (c : Thread nD τ) ↦[arg7.view.set]{fullShare} f) ∗ ⌜f = arg7.view.writes (Elt F) G_arg7 (upto (p7_k0_t3 arg2 arg3 X_arg2 X_arg3) k)⌝) ∗ (∃ f, (arg8.view.loc (c : Thread nD τ) ↦[arg8.view.set]{fullShare} f) ∗ ⌜f = arg8.view.writes (Elt F) G_arg8 (upto (p8_k0_t3 arg2 arg3 X_arg2 X_arg3 arg8 G_arg8) k)⌝))

theorem cinv_k0_t3_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    inv_k0_t3 (F := F) 𝒱 c bd i arg2 harg2 arg3 harg3 arg4 harg4 arg5 harg5 arg6 harg6 arg7 harg7 arg8 harg8 X_arg2 X_arg3 G_arg5 G_arg6 G_arg7 G_arg8
      = cinv_k0_t3 (F := F) c arg2 harg2 arg3 harg3 arg4 harg4 arg5 harg5 arg6 harg6 arg7 harg7 arg8 harg8 X_arg2 X_arg3 G_arg5 G_arg6 G_arg7 G_arg8 := by
  funext k u
  unfold inv_k0_t3 cinv_k0_t3
  rw [pb_k0_t3_eq]

set_option warn.classDefReducibility false in
/-- The loop by its closed invariant, with the generated instance's step. Its type is the loop's class written out, so that
the generated instance, from which the step is taken, is stated beside it. -/
@[sl_loop] def closedInv_k0_t3 (𝒱 : Variants) (c : Dev nD) (bd : Option 𝒱.V) (E : Set ℕ) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    Idealize.ShloMosaic.LoopInv (M := MT nD τ sig Unit (Elt F) ℕ (UR sig nD τ) ℕ) Idealize.ShloMosaic.frame (wpE defs₀ 𝒱 (c : Thread nD τ) bd) E
      k0_t3_loop.lb k0_t3_loop.ub k0_t3_loop.st k0_t3_ok () (k0_t3_body (F := F) i arg2 harg2 arg3 harg3 arg4 harg4 arg5 harg5 arg6 harg6 arg7 harg7 arg8 harg8) where
  inv := cinv_k0_t3 (F := F) c arg2 harg2 arg3 harg3 arg4 harg4 arg5 harg5 arg6 harg6 arg7 harg7 arg8 harg8 X_arg2 X_arg3 G_arg5 G_arg6 G_arg7 G_arg8
  step := by
    rw [← cinv_k0_t3_eq 𝒱 c bd i]
    exact (loopInv_k0_t3 (F := F) 𝒱 c bd E i arg2 harg2 arg3 harg3 arg4 harg4 arg5 harg5 arg6 harg6 arg7 harg7 arg8 harg8 X_arg2 X_arg3 G_arg5 G_arg6 G_arg7 G_arg8).step

/-! ## Loop 4 -/

/-- The block of an input that trip `k` reads. -/
abbrev in_k0_t4 (m : Memref sig .tc .vmem S512x1024 .bf16) (X : BufTy.Contents (Elt F) m.view.ty) (k : Fin k0_t4_loop.trips) : Vec F S128x128 .bf16 :=
  View.readAt (Elt F) m.view (Rect.unit (s := S512x1024) (k0_off13 k) S128x128.size (k0_off13_inb k)).toLoadRect X

def p5_k0_t4 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t4_loop.trips) : View.Piece (Elt F) S512x1024 .fp8e5m2 :=
  ⟨Rect.unit (s := S512x1024) (k0_off13 k) S128x128.size (k0_off13_inb k), codeB (in_k0_t4 arg2 X_arg2 k) (in_k0_t4 arg3 X_arg3 k)⟩
def p6_k0_t4 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t4_loop.trips) : View.Piece (Elt F) S1024x512 .fp8e5m2 :=
  ⟨Rect.unit (s := S1024x512) (k0_off15 k) S128x128.size (k0_off15_inb k), codeTB (in_k0_t4 arg2 X_arg2 k) (in_k0_t4 arg3 X_arg3 k)⟩
def p7_k0_t4 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t4_loop.trips) : View.Piece (Elt F) S4x8x8x128 .f32 :=
  ⟨Rect.unit (s := S4x8x8x128) (k0_off16 k) S1x1x8x128.size (k0_off16_inb k), scaleB (in_k0_t4 arg2 X_arg2 k) (in_k0_t4 arg3 X_arg3 k)⟩
def p8_k0_t4 (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t4_loop.trips) : View.Piece (Elt F) S8x1024 .f32 :=
  ⟨Rect.unit (s := S8x1024) (k0_off14 k) S8x128.size (k0_off14_inb k), accB (in_k0_t4 arg2 X_arg2 k) (in_k0_t4 arg3 X_arg3 k)
    (View.readAt (Elt F) arg8.view (Rect.unit (s := S8x1024) (k0_off14 k) S8x128.size (k0_off14_inb k)).toLoadRect G)⟩

/-- What one trip stores. -/
theorem tripL_k0_t4_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (k : Fin k0_t4_loop.trips)
    (f5 : BufTy.Contents (Elt F) arg5.view.ty) (f6 : BufTy.Contents (Elt F) arg6.view.ty) (f7 : BufTy.Contents (Elt F) arg7.view.ty) (f8 : BufTy.Contents (Elt F) arg8.view.ty) :
    tripL_k0_t4 (F := F) 𝒱 c bd i arg2 harg2 arg3 harg3 arg4 harg4 arg5 harg5 arg6 harg6 arg7 harg7 arg8 harg8 X_arg2 X_arg3 k f5 f6 f7 f8
      = ([p5_k0_t4 arg2 arg3 X_arg2 X_arg3 k], [p6_k0_t4 arg2 arg3 X_arg2 X_arg3 k], [p7_k0_t4 arg2 arg3 X_arg2 X_arg3 k], [p8_k0_t4 arg2 arg3 X_arg2 X_arg3 arg8 f8 k]) := by
  unfold tripL_k0_t4 trip_k0_t4 p5_k0_t4 p6_k0_t4 p7_k0_t4 p8_k0_t4 codeTB scaleB codeB expB accB
  rfl

/-- Two trips touch different columns of the accumulator. -/
theorem col_k0_t4 (k j : Fin k0_t4_loop.trips) (h : j.val < k.val) (y : S8x1024.Idx)
    (hy : y ∈ (Rect.unit (s := S8x1024) (k0_off14 k) S8x128.size (k0_off14_inb k)).set) :
    y ∉ (Rect.unit (s := S8x1024) (k0_off14 j) S8x128.size (k0_off14_inb j)).set := by
  intro hy'
  rw [Rect.mem_set_unit] at hy hy'
  have h1 := (hy 1).1
  have h2 := (hy' 1).2
  rw [k0_off14_eq] at h1 h2
  have e1 : (![0, 128 * k.val] : Fin 2 → ℕ) 1 = 128 * k.val := rfl
  have e2 : (![0, 128 * j.val] : Fin 2 → ℕ) 1 = 128 * j.val := rfl
  have e3 : S8x128.size 1 = 128 := rfl
  simp only [Matrix.cons_val_one, Matrix.cons_val_fin_one, e3] at h1 h2
  omega

/-- A trip reads the accumulator as the loop found it. -/
theorem p8_k0_t4_writes (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t4_loop.trips) :
    p8_k0_t4 arg2 arg3 X_arg2 X_arg3 arg8 (arg8.view.writes (Elt F) G (upto (p8_k0_t4 arg2 arg3 X_arg2 X_arg3 arg8 G) k.val)) k = p8_k0_t4 arg2 arg3 X_arg2 X_arg3 arg8 G k := by
  unfold p8_k0_t4
  rw [View.readAt_writes_of_forall_not_mem]
  intro y pc hpc hy
  obtain ⟨j, hj, rfl⟩ := mem_upto _ _ _ hpc
  exact col_k0_t4 k j hj _ (LoadRect.idx_mem _ y) hy

/-- What the trips before `k` store. -/
theorem pb_k0_t4_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    ∀ k : ℕ, pb_k0_t4 (F := F) 𝒱 c bd i arg2 harg2 arg3 harg3 arg4 harg4 arg5 harg5 arg6 harg6 arg7 harg7 arg8 harg8 X_arg2 X_arg3 G_arg5 G_arg6 G_arg7 G_arg8 k
      = (upto (p5_k0_t4 arg2 arg3 X_arg2 X_arg3) k, upto (p6_k0_t4 arg2 arg3 X_arg2 X_arg3) k, upto (p7_k0_t4 arg2 arg3 X_arg2 X_arg3) k, upto (p8_k0_t4 arg2 arg3 X_arg2 X_arg3 arg8 G_arg8) k)
  | 0 => rfl
  | k + 1 => by
    by_cases h : k < k0_t4_loop.trips
    · refine (pb_k0_t4_succ (F := F) 𝒱 c bd i arg2 harg2 arg3 harg3 arg4 harg4 arg5 harg5 arg6 harg6 arg7 harg7 arg8 harg8 X_arg2 X_arg3 G_arg5 G_arg6 G_arg7 G_arg8 ⟨k, h⟩).trans ?_
      rw [pb_k0_t4_eq 𝒱 c bd i arg2 harg2 arg3 harg3 arg4 harg4 arg5 harg5 arg6 harg6 arg7 harg7 arg8 harg8 X_arg2 X_arg3 G_arg5 G_arg6 G_arg7 G_arg8 k, tripL_k0_t4_eq]
      dsimp only
      rw [p8_k0_t4_writes arg2 arg3 X_arg2 X_arg3 arg8 G_arg8 ⟨k, h⟩]
      rw [← upto_succ _ ⟨k, h⟩, ← upto_succ _ ⟨k, h⟩, ← upto_succ _ ⟨k, h⟩, ← upto_succ _ ⟨k, h⟩]
    · rw [pb_k0_t4.eq_2]
      unfold pb_k0_t4Step
      rw [dif_neg h, pb_k0_t4_eq 𝒱 c bd i arg2 harg2 arg3 harg3 arg4 harg4 arg5 harg5 arg6 harg6 arg7 harg7 arg8 harg8 X_arg2 X_arg3 G_arg5 G_arg6 G_arg7 G_arg8 k]
      simp only [upto, dif_neg h, List.nil_append]

/-- The invariant before trip `k`, in closed form. -/
abbrev cinv_k0_t4 (c : Dev nD) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (upto (p5_k0_t4 arg2 arg3 X_arg2 X_arg3) k)⌝) ∗ (∃ f, (arg6.view.loc (c : Thread nD τ) ↦[arg6.view.set]{fullShare} f) ∗ ⌜f = arg6.view.writes (Elt F) G_arg6 (upto (p6_k0_t4 arg2 arg3 X_arg2 X_arg3) k)⌝) ∗ (∃ f, (arg7.view.loc (c : Thread nD τ) ↦[arg7.view.set]{fullShare} f) ∗ ⌜f = arg7.view.writes (Elt F) G_arg7 (upto (p7_k0_t4 arg2 arg3 X_arg2 X_arg3) k)⌝) ∗ (∃ f, (arg8.view.loc (c : Thread nD τ) ↦[arg8.view.set]{fullShare} f) ∗ ⌜f = arg8.view.writes (Elt F) G_arg8 (upto (p8_k0_t4 arg2 arg3 X_arg2 X_arg3 arg8 G_arg8) k)⌝))

theorem cinv_k0_t4_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    inv_k0_t4 (F := F) 𝒱 c bd i arg2 harg2 arg3 harg3 arg4 harg4 arg5 harg5 arg6 harg6 arg7 harg7 arg8 harg8 X_arg2 X_arg3 G_arg5 G_arg6 G_arg7 G_arg8
      = cinv_k0_t4 (F := F) c arg2 harg2 arg3 harg3 arg4 harg4 arg5 harg5 arg6 harg6 arg7 harg7 arg8 harg8 X_arg2 X_arg3 G_arg5 G_arg6 G_arg7 G_arg8 := by
  funext k u
  unfold inv_k0_t4 cinv_k0_t4
  rw [pb_k0_t4_eq]

set_option warn.classDefReducibility false in
/-- The loop by its closed invariant, with the generated instance's step. Its type is the loop's class written out, so that
the generated instance, from which the step is taken, is stated beside it. -/
@[sl_loop] def closedInv_k0_t4 (𝒱 : Variants) (c : Dev nD) (bd : Option 𝒱.V) (E : Set ℕ) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    Idealize.ShloMosaic.LoopInv (M := MT nD τ sig Unit (Elt F) ℕ (UR sig nD τ) ℕ) Idealize.ShloMosaic.frame (wpE defs₀ 𝒱 (c : Thread nD τ) bd) E
      k0_t4_loop.lb k0_t4_loop.ub k0_t4_loop.st k0_t4_ok () (k0_t4_body (F := F) i arg2 harg2 arg3 harg3 arg4 harg4 arg5 harg5 arg6 harg6 arg7 harg7 arg8 harg8) where
  inv := cinv_k0_t4 (F := F) c arg2 harg2 arg3 harg3 arg4 harg4 arg5 harg5 arg6 harg6 arg7 harg7 arg8 harg8 X_arg2 X_arg3 G_arg5 G_arg6 G_arg7 G_arg8
  step := by
    rw [← cinv_k0_t4_eq 𝒱 c bd i]
    exact (loopInv_k0_t4 (F := F) 𝒱 c bd E i arg2 harg2 arg3 harg3 arg4 harg4 arg5 harg5 arg6 harg6 arg7 harg7 arg8 harg8 X_arg2 X_arg3 G_arg5 G_arg6 G_arg7 G_arg8).step

end Cert.Kernel.Gen

end
-- ==== Proof.Kernel.RunA.lean ====
/- The run of the body at a point whose token index is zero, where the accumulator is cleared first. The text is the generated run's;
   the loops are gone through by their closed invariants. -/
module

public import proofs.«01_k».proof.Proof.Gen.Kernel.Frame.Runs
public import proofs.«01_k».proof.Proof.Kernel.Loops

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 50, 100, 150, 200), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4, 5) at anything, handed back at some contents nothing names. -/
noncomputable def kernelRun0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) :
    { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS0)) -∗ K ⟨⟩))
          ⊢ wp frame (wpE (defs₀ (F := F)) Variants.none c none) E (cc0_dgelu_cast i arg2 harg2 arg3 harg3 arg4 harg4 arg5 harg5 arg6 harg6 arg7 harg7 arg8 harg8) K } := by
  refine ⟨?_, fun E K => ?run⟩
  case run =>
    simp only [cc0_dgelu_cast_eq_skeleton]; unfold cc0_dgelu_cast_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _; iexact HS0

end Cert.Kernel.Gen

end
-- ==== Proof.Kernel.RunB.lean ====
/- The run of the body at a point whose token index is not zero. The text is the generated run's; the loops are gone through by their
   closed invariants. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 249: 245 of 250), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4, 5) at anything, handed back at some contents nothing names. -/
noncomputable def kernelRun0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) :
    { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS0)) -∗ K ⟨⟩))
          ⊢ wp frame (wpE (defs₀ (F := F)) Variants.none c none) E (cc0_dgelu_cast i arg2 harg2 arg3 harg3 arg4 harg4 arg5 harg5 arg6 harg6 arg7 harg7 arg8 harg8) K } := by
  refine ⟨?_, fun E K => ?run⟩
  case run =>
    simp only [cc0_dgelu_cast_eq_skeleton]; unfold cc0_dgelu_cast_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _; iexact HS0

end Cert.Kernel.Gen

end
-- ==== Proof.Kernel.Frame.lean ====
/- The frame of the kernel: what a point leaves in each output's staging buffer, by the runs of its two cases, and the run of the whole
   program. The text is the generated frame's, over the runs whose loops are stated in closed form. -/
module

public import proofs.«01_k».proof.Proof.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg8`, which the kernel carries between points, cover it: one of them a store of the WHOLE buffer (Lib/Ring.lean `sl_whole_mem`). -/
theorem scover0_A_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) (y : S8x1024.Idx) :
    ∃ pc ∈ (kernelRun0_A c i arg2 harg2 arg3 harg3 arg4 harg4 arg5 harg5 arg6 harg6 arg7 harg7 arg8 harg8 hc0 x0 x1).1, y ∈ pc.1.set :=
  View.cover_of_wholeMem (kernelRun0_A c i arg2 harg2 arg3 harg3 arg4 harg4 arg5 harg5 arg6 harg6 arg7 harg7 arg8 harg8 hc0 x0 x1).1 (by sl_whole_mem) y

/-- What case A leaves in scratch `arg8`: its pieces read back over junk. -/
def sout0_A_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) : Vec F S8x1024 .f32 :=
  VS0_0.read (Elt F) (VS0_0.writes (Elt F) VS0_0.junk (kernelRun0_A c i arg2 harg2 arg3 harg3 arg4 harg4 arg5 harg5 arg6 harg6 arg7 harg7 arg8 harg8 hc0 x0 x1).1)

/-- Case B's pieces for scratch `arg8`, which the kernel carries between points, cover it: 32 pieces of `S8x128` tiling it (Lib/Ring.lean `Piece.tiledL`). -/
theorem scover0_B_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) (y : S8x1024.Idx) :
    ∃ pc ∈ (kernelRun0_B c i arg2 harg2 arg3 harg3 arg4 harg4 arg5 harg5 arg6 harg6 arg7 harg7 arg8 harg8 hc0 x0 x1 xs0).1, y ∈ pc.1.set :=
  View.cover_of_tiledL (kernelRun0_B c i arg2 harg2 arg3 harg3 arg4 harg4 arg5 harg5 arg6 harg6 arg7 harg7 arg8 harg8 hc0 x0 x1 xs0).1 S8x128.size (by sl_kernel_rfl) y

/-- What case B leaves in scratch `arg8`: its pieces read back over junk. -/
def sout0_B_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) : Vec F S8x1024 .f32 :=
  VS0_0.read (Elt F) (VS0_0.writes (Elt F) VS0_0.junk (kernelRun0_B c i arg2 harg2 arg3 harg3 arg4 harg4 arg5 harg5 arg6 harg6 arg7 harg7 arg8 harg8 hc0 x0 x1 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x1024 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩)
  | n + 1, hn =>
    if h0 : (n + 1) % 50 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn))

/-- `outsAt0` at a point of case A: that case's contents. -/
theorem outsAt0_A (c : Dev nD) (t : Fin cfg0.N) (h0 : t.val % 50 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 50 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (2, 3, 4, 5): nothing reads what the kernel leaves in them, so nothing
    of it is named (Lib/Pipeline/Dat.lean `Dat.toRForget`). -/
def forgets0 : Fin 6 → Bool := fun w => w.val == 2 || w.val == 3 || w.val == 4 || w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1]
  rw [show (dats m 0 c).Φ t.succ = PhiS m c (t.val + 1) t.isLt from rfl, PhiS_succ]
  have hN : t.val < 250 := lt_of_lt_of_eq t.isLt (show cfg0.N = 250 from N_0)
  by_cases h0 : t.val % 50 = 0
  · by_cases hz : t.val = 0
    · rw [PhiS_castSucc m c t, PhiS_zero m c _ _ hz, PhiA0_eq]
      rw [outsAt0_A m c t h0]
      unfold sout0_A_0
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t)).2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      rw [outsAt0_A m c t h0]
      unfold sout0_A_0
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t)).2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexists _; iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases hz : t.val = 0
    · exfalso; have hN : t.val < 250 := lt_of_lt_of_eq t.isLt (show cfg0.N = 250 from N_0); omega
    · rw [PhiS_castSucc m c t, PhiS_pos m c _ _ hz]
      rw [outsAt0_B m c t h0]
      unfold sout0_B_0
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) _).2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 250 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 2, 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c))⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.KernelIdeal.Loops.lean ====
/- The loops of the kernel body, with what they store in closed form. The body runs its column loop four times, once for each
   row of 128 x 128 blocks in the tile. The trip `k` of a loop reads one block of each input, and stores the block's codes, the
   transposed codes and the scale, and adds the block's column sums to the accumulator's columns `128 k …`. None of the stores
   depends on what an output held before, and the accumulator's columns are read as the loop found them, since each trip touches
   columns of its own. So the pieces after `k` trips are a plain list, and the loop invariant says just that. -/
module

public import proofs.«01_k».proof.Proof.Gen.KernelIdeal.Loops

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The first `k` of `n` listed pieces, the last first. -/
def upto {s : Shape} {e : EltTy} {n : ℕ} (P : Fin n → View.Piece (Elt F) s e) : ℕ → List (View.Piece (Elt F) s e)
  | 0 => []
  | k + 1 => (if h : k < n then [P ⟨k, h⟩] else []) ++ upto P k

theorem upto_succ {s : Shape} {e : EltTy} {n : ℕ} (P : Fin n → View.Piece (Elt F) s e) (k : Fin n) :
    upto P (k.val + 1) = [P k] ++ upto P k.val := by
  rw [upto, dif_pos k.isLt]

theorem mem_upto {s : Shape} {e : EltTy} {n : ℕ} (P : Fin n → View.Piece (Elt F) s e) :
    ∀ (k : ℕ) (pc : View.Piece (Elt F) s e), pc ∈ upto P k → ∃ j : Fin n, j.val < k ∧ pc = P j
  | 0, pc, h => by simp [upto] at h
  | k + 1, pc, h => by
    rw [upto, List.mem_append] at h
    rcases h with h | h
    · split at h
      · rename_i hk
        rw [List.mem_singleton] at h
        exact ⟨⟨k, hk⟩, Nat.lt_succ_self k, h⟩
      · simp at h
    · obtain ⟨j, hj, e⟩ := mem_upto P k pc h
      exact ⟨j, hj.trans (Nat.lt_succ_self k), e⟩

/-! ## One block -/

/-- The block's exponent, from the block of the two inputs. -/
@[irreducible] def expB (v16 v19 : Vec F S128x128 .bf16) : IVec S8x128 32 :=
  k0_pay17 (k0_pay14 (k0_pay13 v16 v19)) (k0_pay15 (k0_pay13 v16 v19)) (k0_pay16 (k0_pay13 v16 v19)) 23#32

/-- The block's codes. -/
@[irreducible] def codeB (v16 v19 : Vec F S128x128 .bf16) : FVec F S128x128 .fp8e5m2 :=
  k0_pay18 (k0_pay11 v16 v19) (k0_pay14 (k0_pay13 v16 v19)) (k0_pay15 (k0_pay13 v16 v19)) (k0_pay16 (k0_pay13 v16 v19)) 23#32

/-- The block's codes, transposed. -/
@[irreducible] def codeTB (v16 v19 : Vec F S128x128 .bf16) : FVec F S128x128 .fp8e5m2 := k0_pay2 (codeB v16 v19)

/-- The block's scale. -/
@[irreducible] def scaleB (v16 v19 : Vec F S128x128 .bf16) : FVec F S1x1x8x128 .f32 := k0_pay3 (expB v16 v19)

/-- The accumulator's columns with the block's column sums added. -/
@[irreducible] def accB (v16 v19 : Vec F S128x128 .bf16) (v42 : Vec F S8x128 .f32) : FVec F S8x128 .f32 := k0_pay12 v16 v19 v42

/-! ## Loop 1 -/

/-- The block of an input that trip `k` reads. -/
abbrev in_k0_t1 (m : Memref sig .tc .vmem S512x1024 .bf16) (X : BufTy.Contents (Elt F) m.view.ty) (k : Fin k0_t1_loop.trips) : Vec F S128x128 .bf16 :=
  View.readAt (Elt F) m.view (Rect.unit (s := S512x1024) (k0_off1 k) S128x128.size (k0_off1_inb k)).toLoadRect X

def p5_k0_t1 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t1_loop.trips) : View.Piece (Elt F) S512x1024 .fp8e5m2 :=
  ⟨Rect.unit (s := S512x1024) (k0_off1 k) S128x128.size (k0_off1_inb k), codeB (in_k0_t1 arg2 X_arg2 k) (in_k0_t1 arg3 X_arg3 k)⟩
def p6_k0_t1 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t1_loop.trips) : View.Piece (Elt F) S1024x512 .fp8e5m2 :=
  ⟨Rect.unit (s := S1024x512) (k0_off3 k) S128x128.size (k0_off3_inb k), codeTB (in_k0_t1 arg2 X_arg2 k) (in_k0_t1 arg3 X_arg3 k)⟩
def p7_k0_t1 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t1_loop.trips) : View.Piece (Elt F) S4x8x8x128 .f32 :=
  ⟨Rect.unit (s := S4x8x8x128) (k0_off4 k) S1x1x8x128.size (k0_off4_inb k), scaleB (in_k0_t1 arg2 X_arg2 k) (in_k0_t1 arg3 X_arg3 k)⟩
def p8_k0_t1 (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t1_loop.trips) : View.Piece (Elt F) S8x1024 .f32 :=
  ⟨Rect.unit (s := S8x1024) (k0_off2 k) S8x128.size (k0_off2_inb k), accB (in_k0_t1 arg2 X_arg2 k) (in_k0_t1 arg3 X_arg3 k)
    (View.readAt (Elt F) arg8.view (Rect.unit (s := S8x1024) (k0_off2 k) S8x128.size (k0_off2_inb k)).toLoadRect G)⟩

/-- What one trip stores. -/
theorem tripL_k0_t1_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (k : Fin k0_t1_loop.trips)
    (f5 : BufTy.Contents (Elt F) arg5.view.ty) (f6 : BufTy.Contents (Elt F) arg6.view.ty) (f7 : BufTy.Contents (Elt F) arg7.view.ty) (f8 : BufTy.Contents (Elt F) arg8.view.ty) :
    tripL_k0_t1 (F := F) 𝒱 c bd i arg2 harg2 arg3 harg3 arg4 harg4 arg5 harg5 arg6 harg6 arg7 harg7 arg8 harg8 X_arg2 X_arg3 k f5 f6 f7 f8
      = ([p5_k0_t1 arg2 arg3 X_arg2 X_arg3 k], [p6_k0_t1 arg2 arg3 X_arg2 X_arg3 k], [p7_k0_t1 arg2 arg3 X_arg2 X_arg3 k], [p8_k0_t1 arg2 arg3 X_arg2 X_arg3 arg8 f8 k]) := by
  unfold tripL_k0_t1 trip_k0_t1 p5_k0_t1 p6_k0_t1 p7_k0_t1 p8_k0_t1 codeTB scaleB codeB expB accB
  rfl

/-- Two trips touch different columns of the accumulator. -/
theorem col_k0_t1 (k j : Fin k0_t1_loop.trips) (h : j.val < k.val) (y : S8x1024.Idx)
    (hy : y ∈ (Rect.unit (s := S8x1024) (k0_off2 k) S8x128.size (k0_off2_inb k)).set) :
    y ∉ (Rect.unit (s := S8x1024) (k0_off2 j) S8x128.size (k0_off2_inb j)).set := by
  intro hy'
  rw [Rect.mem_set_unit] at hy hy'
  have h1 := (hy 1).1
  have h2 := (hy' 1).2
  rw [k0_off2_eq] at h1 h2
  have e1 : (![0, 128 * k.val] : Fin 2 → ℕ) 1 = 128 * k.val := rfl
  have e2 : (![0, 128 * j.val] : Fin 2 → ℕ) 1 = 128 * j.val := rfl
  have e3 : S8x128.size 1 = 128 := rfl
  simp only [Matrix.cons_val_one, Matrix.cons_val_fin_one, e3] at h1 h2
  omega

/-- A trip reads the accumulator as the loop found it. -/
theorem p8_k0_t1_writes (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t1_loop.trips) :
    p8_k0_t1 arg2 arg3 X_arg2 X_arg3 arg8 (arg8.view.writes (Elt F) G (upto (p8_k0_t1 arg2 arg3 X_arg2 X_arg3 arg8 G) k.val)) k = p8_k0_t1 arg2 arg3 X_arg2 X_arg3 arg8 G k := by
  unfold p8_k0_t1
  rw [View.readAt_writes_of_forall_not_mem]
  intro y pc hpc hy
  obtain ⟨j, hj, rfl⟩ := mem_upto _ _ _ hpc
  exact col_k0_t1 k j hj _ (LoadRect.idx_mem _ y) hy

/-- What the trips before `k` store. -/
theorem pb_k0_t1_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    ∀ k : ℕ, pb_k0_t1 (F := F) 𝒱 c bd i arg2 harg2 arg3 harg3 arg4 harg4 arg5 harg5 arg6 harg6 arg7 harg7 arg8 harg8 X_arg2 X_arg3 G_arg5 G_arg6 G_arg7 G_arg8 k
      = (upto (p5_k0_t1 arg2 arg3 X_arg2 X_arg3) k, upto (p6_k0_t1 arg2 arg3 X_arg2 X_arg3) k, upto (p7_k0_t1 arg2 arg3 X_arg2 X_arg3) k, upto (p8_k0_t1 arg2 arg3 X_arg2 X_arg3 arg8 G_arg8) k)
  | 0 => rfl
  | k + 1 => by
    by_cases h : k < k0_t1_loop.trips
    · refine (pb_k0_t1_succ (F := F) 𝒱 c bd i arg2 harg2 arg3 harg3 arg4 harg4 arg5 harg5 arg6 harg6 arg7 harg7 arg8 harg8 X_arg2 X_arg3 G_arg5 G_arg6 G_arg7 G_arg8 ⟨k, h⟩).trans ?_
      rw [pb_k0_t1_eq 𝒱 c bd i arg2 harg2 arg3 harg3 arg4 harg4 arg5 harg5 arg6 harg6 arg7 harg7 arg8 harg8 X_arg2 X_arg3 G_arg5 G_arg6 G_arg7 G_arg8 k, tripL_k0_t1_eq]
      dsimp only
      rw [p8_k0_t1_writes arg2 arg3 X_arg2 X_arg3 arg8 G_arg8 ⟨k, h⟩]
      rw [← upto_succ _ ⟨k, h⟩, ← upto_succ _ ⟨k, h⟩, ← upto_succ _ ⟨k, h⟩, ← upto_succ _ ⟨k, h⟩]
    · rw [pb_k0_t1.eq_2]
      unfold pb_k0_t1Step
      rw [dif_neg h, pb_k0_t1_eq 𝒱 c bd i arg2 harg2 arg3 harg3 arg4 harg4 arg5 harg5 arg6 harg6 arg7 harg7 arg8 harg8 X_arg2 X_arg3 G_arg5 G_arg6 G_arg7 G_arg8 k]
      simp only [upto, dif_neg h, List.nil_append]

/-- The invariant before trip `k`, in closed form. -/
abbrev cinv_k0_t1 (c : Dev nD) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (upto (p5_k0_t1 arg2 arg3 X_arg2 X_arg3) k)⌝) ∗ (∃ f, (arg6.view.loc (c : Thread nD τ) ↦[arg6.view.set]{fullShare} f) ∗ ⌜f = arg6.view.writes (Elt F) G_arg6 (upto (p6_k0_t1 arg2 arg3 X_arg2 X_arg3) k)⌝) ∗ (∃ f, (arg7.view.loc (c : Thread nD τ) ↦[arg7.view.set]{fullShare} f) ∗ ⌜f = arg7.view.writes (Elt F) G_arg7 (upto (p7_k0_t1 arg2 arg3 X_arg2 X_arg3) k)⌝) ∗ (∃ f, (arg8.view.loc (c : Thread nD τ) ↦[arg8.view.set]{fullShare} f) ∗ ⌜f = arg8.view.writes (Elt F) G_arg8 (upto (p8_k0_t1 arg2 arg3 X_arg2 X_arg3 arg8 G_arg8) k)⌝))

theorem cinv_k0_t1_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    inv_k0_t1 (F := F) 𝒱 c bd i arg2 harg2 arg3 harg3 arg4 harg4 arg5 harg5 arg6 harg6 arg7 harg7 arg8 harg8 X_arg2 X_arg3 G_arg5 G_arg6 G_arg7 G_arg8
      = cinv_k0_t1 (F := F) c arg2 harg2 arg3 harg3 arg4 harg4 arg5 harg5 arg6 harg6 arg7 harg7 arg8 harg8 X_arg2 X_arg3 G_arg5 G_arg6 G_arg7 G_arg8 := by
  funext k u
  unfold inv_k0_t1 cinv_k0_t1
  rw [pb_k0_t1_eq]

set_option warn.classDefReducibility false in
/-- The loop by its closed invariant, with the generated instance's step. Its type is the loop's class written out, so that
the generated instance, from which the step is taken, is stated beside it. -/
@[sl_loop] def closedInv_k0_t1 (𝒱 : Variants) (c : Dev nD) (bd : Option 𝒱.V) (E : Set ℕ) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    Idealize.ShloMosaic.LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8) where
  inv := cinv_k0_t1 (F := F) c arg2 harg2 arg3 harg3 arg4 harg4 arg5 harg5 arg6 harg6 arg7 harg7 arg8 harg8 X_arg2 X_arg3 G_arg5 G_arg6 G_arg7 G_arg8
  step := by
    rw [← cinv_k0_t1_eq 𝒱 c bd i]
    exact (loopInv_k0_t1 (F := F) 𝒱 c bd E i arg2 harg2 arg3 harg3 arg4 harg4 arg5 harg5 arg6 harg6 arg7 harg7 arg8 harg8 X_arg2 X_arg3 G_arg5 G_arg6 G_arg7 G_arg8).step

/-! ## Loop 2 -/

/-- The block of an input that trip `k` reads. -/
abbrev in_k0_t2 (m : Memref sig .tc .vmem S512x1024 .bf16) (X : BufTy.Contents (Elt F) m.view.ty) (k : Fin k0_t2_loop.trips) : Vec F S128x128 .bf16 :=
  View.readAt (Elt F) m.view (Rect.unit (s := S512x1024) (k0_off5 k) S128x128.size (k0_off5_inb k)).toLoadRect X

def p5_k0_t2 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t2_loop.trips) : View.Piece (Elt F) S512x1024 .fp8e5m2 :=
  ⟨Rect.unit (s := S512x1024) (k0_off5 k) S128x128.size (k0_off5_inb k), codeB (in_k0_t2 arg2 X_arg2 k) (in_k0_t2 arg3 X_arg3 k)⟩
def p6_k0_t2 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t2_loop.trips) : View.Piece (Elt F) S1024x512 .fp8e5m2 :=
  ⟨Rect.unit (s := S1024x512) (k0_off7 k) S128x128.size (k0_off7_inb k), codeTB (in_k0_t2 arg2 X_arg2 k) (in_k0_t2 arg3 X_arg3 k)⟩
def p7_k0_t2 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t2_loop.trips) : View.Piece (Elt F) S4x8x8x128 .f32 :=
  ⟨Rect.unit (s := S4x8x8x128) (k0_off8 k) S1x1x8x128.size (k0_off8_inb k), scaleB (in_k0_t2 arg2 X_arg2 k) (in_k0_t2 arg3 X_arg3 k)⟩
def p8_k0_t2 (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t2_loop.trips) : View.Piece (Elt F) S8x1024 .f32 :=
  ⟨Rect.unit (s := S8x1024) (k0_off6 k) S8x128.size (k0_off6_inb k), accB (in_k0_t2 arg2 X_arg2 k) (in_k0_t2 arg3 X_arg3 k)
    (View.readAt (Elt F) arg8.view (Rect.unit (s := S8x1024) (k0_off6 k) S8x128.size (k0_off6_inb k)).toLoadRect G)⟩

/-- What one trip stores. -/
theorem tripL_k0_t2_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (k : Fin k0_t2_loop.trips)
    (f5 : BufTy.Contents (Elt F) arg5.view.ty) (f6 : BufTy.Contents (Elt F) arg6.view.ty) (f7 : BufTy.Contents (Elt F) arg7.view.ty) (f8 : BufTy.Contents (Elt F) arg8.view.ty) :
    tripL_k0_t2 (F := F) 𝒱 c bd i arg2 harg2 arg3 harg3 arg4 harg4 arg5 harg5 arg6 harg6 arg7 harg7 arg8 harg8 X_arg2 X_arg3 k f5 f6 f7 f8
      = ([p5_k0_t2 arg2 arg3 X_arg2 X_arg3 k], [p6_k0_t2 arg2 arg3 X_arg2 X_arg3 k], [p7_k0_t2 arg2 arg3 X_arg2 X_arg3 k], [p8_k0_t2 arg2 arg3 X_arg2 X_arg3 arg8 f8 k]) := by
  unfold tripL_k0_t2 trip_k0_t2 p5_k0_t2 p6_k0_t2 p7_k0_t2 p8_k0_t2 codeTB scaleB codeB expB accB
  rfl

/-- Two trips touch different columns of the accumulator. -/
theorem col_k0_t2 (k j : Fin k0_t2_loop.trips) (h : j.val < k.val) (y : S8x1024.Idx)
    (hy : y ∈ (Rect.unit (s := S8x1024) (k0_off6 k) S8x128.size (k0_off6_inb k)).set) :
    y ∉ (Rect.unit (s := S8x1024) (k0_off6 j) S8x128.size (k0_off6_inb j)).set := by
  intro hy'
  rw [Rect.mem_set_unit] at hy hy'
  have h1 := (hy 1).1
  have h2 := (hy' 1).2
  rw [k0_off6_eq] at h1 h2
  have e1 : (![0, 128 * k.val] : Fin 2 → ℕ) 1 = 128 * k.val := rfl
  have e2 : (![0, 128 * j.val] : Fin 2 → ℕ) 1 = 128 * j.val := rfl
  have e3 : S8x128.size 1 = 128 := rfl
  simp only [Matrix.cons_val_one, Matrix.cons_val_fin_one, e3] at h1 h2
  omega

/-- A trip reads the accumulator as the loop found it. -/
theorem p8_k0_t2_writes (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t2_loop.trips) :
    p8_k0_t2 arg2 arg3 X_arg2 X_arg3 arg8 (arg8.view.writes (Elt F) G (upto (p8_k0_t2 arg2 arg3 X_arg2 X_arg3 arg8 G) k.val)) k = p8_k0_t2 arg2 arg3 X_arg2 X_arg3 arg8 G k := by
  unfold p8_k0_t2
  rw [View.readAt_writes_of_forall_not_mem]
  intro y pc hpc hy
  obtain ⟨j, hj, rfl⟩ := mem_upto _ _ _ hpc
  exact col_k0_t2 k j hj _ (LoadRect.idx_mem _ y) hy

/-- What the trips before `k` store. -/
theorem pb_k0_t2_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    ∀ k : ℕ, pb_k0_t2 (F := F) 𝒱 c bd i arg2 harg2 arg3 harg3 arg4 harg4 arg5 harg5 arg6 harg6 arg7 harg7 arg8 harg8 X_arg2 X_arg3 G_arg5 G_arg6 G_arg7 G_arg8 k
      = (upto (p5_k0_t2 arg2 arg3 X_arg2 X_arg3) k, upto (p6_k0_t2 arg2 arg3 X_arg2 X_arg3) k, upto (p7_k0_t2 arg2 arg3 X_arg2 X_arg3) k, upto (p8_k0_t2 arg2 arg3 X_arg2 X_arg3 arg8 G_arg8) k)
  | 0 => rfl
  | k + 1 => by
    by_cases h : k < k0_t2_loop.trips
    · refine (pb_k0_t2_succ (F := F) 𝒱 c bd i arg2 harg2 arg3 harg3 arg4 harg4 arg5 harg5 arg6 harg6 arg7 harg7 arg8 harg8 X_arg2 X_arg3 G_arg5 G_arg6 G_arg7 G_arg8 ⟨k, h⟩).trans ?_
      rw [pb_k0_t2_eq 𝒱 c bd i arg2 harg2 arg3 harg3 arg4 harg4 arg5 harg5 arg6 harg6 arg7 harg7 arg8 harg8 X_arg2 X_arg3 G_arg5 G_arg6 G_arg7 G_arg8 k, tripL_k0_t2_eq]
      dsimp only
      rw [p8_k0_t2_writes arg2 arg3 X_arg2 X_arg3 arg8 G_arg8 ⟨k, h⟩]
      rw [← upto_succ _ ⟨k, h⟩, ← upto_succ _ ⟨k, h⟩, ← upto_succ _ ⟨k, h⟩, ← upto_succ _ ⟨k, h⟩]
    · rw [pb_k0_t2.eq_2]
      unfold pb_k0_t2Step
      rw [dif_neg h, pb_k0_t2_eq 𝒱 c bd i arg2 harg2 arg3 harg3 arg4 harg4 arg5 harg5 arg6 harg6 arg7 harg7 arg8 harg8 X_arg2 X_arg3 G_arg5 G_arg6 G_arg7 G_arg8 k]
      simp only [upto, dif_neg h, List.nil_append]

/-- The invariant before trip `k`, in closed form. -/
abbrev cinv_k0_t2 (c : Dev nD) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (upto (p5_k0_t2 arg2 arg3 X_arg2 X_arg3) k)⌝) ∗ (∃ f, (arg6.view.loc (c : Thread nD τ) ↦[arg6.view.set]{fullShare} f) ∗ ⌜f = arg6.view.writes (Elt F) G_arg6 (upto (p6_k0_t2 arg2 arg3 X_arg2 X_arg3) k)⌝) ∗ (∃ f, (arg7.view.loc (c : Thread nD τ) ↦[arg7.view.set]{fullShare} f) ∗ ⌜f = arg7.view.writes (Elt F) G_arg7 (upto (p7_k0_t2 arg2 arg3 X_arg2 X_arg3) k)⌝) ∗ (∃ f, (arg8.view.loc (c : Thread nD τ) ↦[arg8.view.set]{fullShare} f) ∗ ⌜f = arg8.view.writes (Elt F) G_arg8 (upto (p8_k0_t2 arg2 arg3 X_arg2 X_arg3 arg8 G_arg8) k)⌝))

theorem cinv_k0_t2_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    inv_k0_t2 (F := F) 𝒱 c bd i arg2 harg2 arg3 harg3 arg4 harg4 arg5 harg5 arg6 harg6 arg7 harg7 arg8 harg8 X_arg2 X_arg3 G_arg5 G_arg6 G_arg7 G_arg8
      = cinv_k0_t2 (F := F) c arg2 harg2 arg3 harg3 arg4 harg4 arg5 harg5 arg6 harg6 arg7 harg7 arg8 harg8 X_arg2 X_arg3 G_arg5 G_arg6 G_arg7 G_arg8 := by
  funext k u
  unfold inv_k0_t2 cinv_k0_t2
  rw [pb_k0_t2_eq]

set_option warn.classDefReducibility false in
/-- The loop by its closed invariant, with the generated instance's step. Its type is the loop's class written out, so that
the generated instance, from which the step is taken, is stated beside it. -/
@[sl_loop] def closedInv_k0_t2 (𝒱 : Variants) (c : Dev nD) (bd : Option 𝒱.V) (E : Set ℕ) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    Idealize.ShloMosaic.LoopInv (M := MT nD τ sig Unit (Elt F) ℕ (UR sig nD τ) ℕ) Idealize.ShloMosaic.frame (wpE defs₀ 𝒱 (c : Thread nD τ) bd) E
      k0_t2_loop.lb k0_t2_loop.ub k0_t2_loop.st k0_t2_ok () (k0_t2_body (F := F) i arg2 harg2 arg3 harg3 arg4 harg4 arg5 harg5 arg6 harg6 arg7 harg7 arg8 harg8) where
  inv := cinv_k0_t2 (F := F) c arg2 harg2 arg3 harg3 arg4 harg4 arg5 harg5 arg6 harg6 arg7 harg7 arg8 harg8 X_arg2 X_arg3 G_arg5 G_arg6 G_arg7 G_arg8
  step := by
    rw [← cinv_k0_t2_eq 𝒱 c bd i]
    exact (loopInv_k0_t2 (F := F) 𝒱 c bd E i arg2 harg2 arg3 harg3 arg4 harg4 arg5 harg5 arg6 harg6 arg7 harg7 arg8 harg8 X_arg2 X_arg3 G_arg5 G_arg6 G_arg7 G_arg8).step

/-! ## Loop 3 -/

/-- The block of an input that trip `k` reads. -/
abbrev in_k0_t3 (m : Memref sig .tc .vmem S512x1024 .bf16) (X : BufTy.Contents (Elt F) m.view.ty) (k : Fin k0_t3_loop.trips) : Vec F S128x128 .bf16 :=
  View.readAt (Elt F) m.view (Rect.unit (s := S512x1024) (k0_off9 k) S128x128.size (k0_off9_inb k)).toLoadRect X

def p5_k0_t3 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t3_loop.trips) : View.Piece (Elt F) S512x1024 .fp8e5m2 :=
  ⟨Rect.unit (s := S512x1024) (k0_off9 k) S128x128.size (k0_off9_inb k), codeB (in_k0_t3 arg2 X_arg2 k) (in_k0_t3 arg3 X_arg3 k)⟩
def p6_k0_t3 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t3_loop.trips) : View.Piece (Elt F) S1024x512 .fp8e5m2 :=
  ⟨Rect.unit (s := S1024x512) (k0_off11 k) S128x128.size (k0_off11_inb k), codeTB (in_k0_t3 arg2 X_arg2 k) (in_k0_t3 arg3 X_arg3 k)⟩
def p7_k0_t3 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t3_loop.trips) : View.Piece (Elt F) S4x8x8x128 .f32 :=
  ⟨Rect.unit (s := S4x8x8x128) (k0_off12 k) S1x1x8x128.size (k0_off12_inb k), scaleB (in_k0_t3 arg2 X_arg2 k) (in_k0_t3 arg3 X_arg3 k)⟩
def p8_k0_t3 (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t3_loop.trips) : View.Piece (Elt F) S8x1024 .f32 :=
  ⟨Rect.unit (s := S8x1024) (k0_off10 k) S8x128.size (k0_off10_inb k), accB (in_k0_t3 arg2 X_arg2 k) (in_k0_t3 arg3 X_arg3 k)
    (View.readAt (Elt F) arg8.view (Rect.unit (s := S8x1024) (k0_off10 k) S8x128.size (k0_off10_inb k)).toLoadRect G)⟩

/-- What one trip stores. -/
theorem tripL_k0_t3_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (k : Fin k0_t3_loop.trips)
    (f5 : BufTy.Contents (Elt F) arg5.view.ty) (f6 : BufTy.Contents (Elt F) arg6.view.ty) (f7 : BufTy.Contents (Elt F) arg7.view.ty) (f8 : BufTy.Contents (Elt F) arg8.view.ty) :
    tripL_k0_t3 (F := F) 𝒱 c bd i arg2 harg2 arg3 harg3 arg4 harg4 arg5 harg5 arg6 harg6 arg7 harg7 arg8 harg8 X_arg2 X_arg3 k f5 f6 f7 f8
      = ([p5_k0_t3 arg2 arg3 X_arg2 X_arg3 k], [p6_k0_t3 arg2 arg3 X_arg2 X_arg3 k], [p7_k0_t3 arg2 arg3 X_arg2 X_arg3 k], [p8_k0_t3 arg2 arg3 X_arg2 X_arg3 arg8 f8 k]) := by
  unfold tripL_k0_t3 trip_k0_t3 p5_k0_t3 p6_k0_t3 p7_k0_t3 p8_k0_t3 codeTB scaleB codeB expB accB
  rfl

/-- Two trips touch different columns of the accumulator. -/
theorem col_k0_t3 (k j : Fin k0_t3_loop.trips) (h : j.val < k.val) (y : S8x1024.Idx)
    (hy : y ∈ (Rect.unit (s := S8x1024) (k0_off10 k) S8x128.size (k0_off10_inb k)).set) :
    y ∉ (Rect.unit (s := S8x1024) (k0_off10 j) S8x128.size (k0_off10_inb j)).set := by
  intro hy'
  rw [Rect.mem_set_unit] at hy hy'
  have h1 := (hy 1).1
  have h2 := (hy' 1).2
  rw [k0_off10_eq] at h1 h2
  have e1 : (![0, 128 * k.val] : Fin 2 → ℕ) 1 = 128 * k.val := rfl
  have e2 : (![0, 128 * j.val] : Fin 2 → ℕ) 1 = 128 * j.val := rfl
  have e3 : S8x128.size 1 = 128 := rfl
  simp only [Matrix.cons_val_one, Matrix.cons_val_fin_one, e3] at h1 h2
  omega

/-- A trip reads the accumulator as the loop found it. -/
theorem p8_k0_t3_writes (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t3_loop.trips) :
    p8_k0_t3 arg2 arg3 X_arg2 X_arg3 arg8 (arg8.view.writes (Elt F) G (upto (p8_k0_t3 arg2 arg3 X_arg2 X_arg3 arg8 G) k.val)) k = p8_k0_t3 arg2 arg3 X_arg2 X_arg3 arg8 G k := by
  unfold p8_k0_t3
  rw [View.readAt_writes_of_forall_not_mem]
  intro y pc hpc hy
  obtain ⟨j, hj, rfl⟩ := mem_upto _ _ _ hpc
  exact col_k0_t3 k j hj _ (LoadRect.idx_mem _ y) hy

/-- What the trips before `k` store. -/
theorem pb_k0_t3_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    ∀ k : ℕ, pb_k0_t3 (F := F) 𝒱 c bd i arg2 harg2 arg3 harg3 arg4 harg4 arg5 harg5 arg6 harg6 arg7 harg7 arg8 harg8 X_arg2 X_arg3 G_arg5 G_arg6 G_arg7 G_arg8 k
      = (upto (p5_k0_t3 arg2 arg3 X_arg2 X_arg3) k, upto (p6_k0_t3 arg2 arg3 X_arg2 X_arg3) k, upto (p7_k0_t3 arg2 arg3 X_arg2 X_arg3) k, upto (p8_k0_t3 arg2 arg3 X_arg2 X_arg3 arg8 G_arg8) k)
  | 0 => rfl
  | k + 1 => by
    by_cases h : k < k0_t3_loop.trips
    · refine (pb_k0_t3_succ (F := F) 𝒱 c bd i arg2 harg2 arg3 harg3 arg4 harg4 arg5 harg5 arg6 harg6 arg7 harg7 arg8 harg8 X_arg2 X_arg3 G_arg5 G_arg6 G_arg7 G_arg8 ⟨k, h⟩).trans ?_
      rw [pb_k0_t3_eq 𝒱 c bd i arg2 harg2 arg3 harg3 arg4 harg4 arg5 harg5 arg6 harg6 arg7 harg7 arg8 harg8 X_arg2 X_arg3 G_arg5 G_arg6 G_arg7 G_arg8 k, tripL_k0_t3_eq]
      dsimp only
      rw [p8_k0_t3_writes arg2 arg3 X_arg2 X_arg3 arg8 G_arg8 ⟨k, h⟩]
      rw [← upto_succ _ ⟨k, h⟩, ← upto_succ _ ⟨k, h⟩, ← upto_succ _ ⟨k, h⟩, ← upto_succ _ ⟨k, h⟩]
    · rw [pb_k0_t3.eq_2]
      unfold pb_k0_t3Step
      rw [dif_neg h, pb_k0_t3_eq 𝒱 c bd i arg2 harg2 arg3 harg3 arg4 harg4 arg5 harg5 arg6 harg6 arg7 harg7 arg8 harg8 X_arg2 X_arg3 G_arg5 G_arg6 G_arg7 G_arg8 k]
      simp only [upto, dif_neg h, List.nil_append]

/-- The invariant before trip `k`, in closed form. -/
abbrev cinv_k0_t3 (c : Dev nD) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (upto (p5_k0_t3 arg2 arg3 X_arg2 X_arg3) k)⌝) ∗ (∃ f, (arg6.view.loc (c : Thread nD τ) ↦[arg6.view.set]{fullShare} f) ∗ ⌜f = arg6.view.writes (Elt F) G_arg6 (upto (p6_k0_t3 arg2 arg3 X_arg2 X_arg3) k)⌝) ∗ (∃ f, (arg7.view.loc (c : Thread nD τ) ↦[arg7.view.set]{fullShare} f) ∗ ⌜f = arg7.view.writes (Elt F) G_arg7 (upto (p7_k0_t3 arg2 arg3 X_arg2 X_arg3) k)⌝) ∗ (∃ f, (arg8.view.loc (c : Thread nD τ) ↦[arg8.view.set]{fullShare} f) ∗ ⌜f = arg8.view.writes (Elt F) G_arg8 (upto (p8_k0_t3 arg2 arg3 X_arg2 X_arg3 arg8 G_arg8) k)⌝))

theorem cinv_k0_t3_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    inv_k0_t3 (F := F) 𝒱 c bd i arg2 harg2 arg3 harg3 arg4 harg4 arg5 harg5 arg6 harg6 arg7 harg7 arg8 harg8 X_arg2 X_arg3 G_arg5 G_arg6 G_arg7 G_arg8
      = cinv_k0_t3 (F := F) c arg2 harg2 arg3 harg3 arg4 harg4 arg5 harg5 arg6 harg6 arg7 harg7 arg8 harg8 X_arg2 X_arg3 G_arg5 G_arg6 G_arg7 G_arg8 := by
  funext k u
  unfold inv_k0_t3 cinv_k0_t3
  rw [pb_k0_t3_eq]

set_option warn.classDefReducibility false in
/-- The loop by its closed invariant, with the generated instance's step. Its type is the loop's class written out, so that
the generated instance, from which the step is taken, is stated beside it. -/
@[sl_loop] def closedInv_k0_t3 (𝒱 : Variants) (c : Dev nD) (bd : Option 𝒱.V) (E : Set ℕ) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    Idealize.ShloMosaic.LoopInv (M := MT nD τ sig Unit (Elt F) ℕ (UR sig nD τ) ℕ) Idealize.ShloMosaic.frame (wpE defs₀ 𝒱 (c : Thread nD τ) bd) E
      k0_t3_loop.lb k0_t3_loop.ub k0_t3_loop.st k0_t3_ok () (k0_t3_body (F := F) i arg2 harg2 arg3 harg3 arg4 harg4 arg5 harg5 arg6 harg6 arg7 harg7 arg8 harg8) where
  inv := cinv_k0_t3 (F := F) c arg2 harg2 arg3 harg3 arg4 harg4 arg5 harg5 arg6 harg6 arg7 harg7 arg8 harg8 X_arg2 X_arg3 G_arg5 G_arg6 G_arg7 G_arg8
  step := by
    rw [← cinv_k0_t3_eq 𝒱 c bd i]
    exact (loopInv_k0_t3 (F := F) 𝒱 c bd E i arg2 harg2 arg3 harg3 arg4 harg4 arg5 harg5 arg6 harg6 arg7 harg7 arg8 harg8 X_arg2 X_arg3 G_arg5 G_arg6 G_arg7 G_arg8).step

/-! ## Loop 4 -/

/-- The block of an input that trip `k` reads. -/
abbrev in_k0_t4 (m : Memref sig .tc .vmem S512x1024 .bf16) (X : BufTy.Contents (Elt F) m.view.ty) (k : Fin k0_t4_loop.trips) : Vec F S128x128 .bf16 :=
  View.readAt (Elt F) m.view (Rect.unit (s := S512x1024) (k0_off13 k) S128x128.size (k0_off13_inb k)).toLoadRect X

def p5_k0_t4 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t4_loop.trips) : View.Piece (Elt F) S512x1024 .fp8e5m2 :=
  ⟨Rect.unit (s := S512x1024) (k0_off13 k) S128x128.size (k0_off13_inb k), codeB (in_k0_t4 arg2 X_arg2 k) (in_k0_t4 arg3 X_arg3 k)⟩
def p6_k0_t4 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t4_loop.trips) : View.Piece (Elt F) S1024x512 .fp8e5m2 :=
  ⟨Rect.unit (s := S1024x512) (k0_off15 k) S128x128.size (k0_off15_inb k), codeTB (in_k0_t4 arg2 X_arg2 k) (in_k0_t4 arg3 X_arg3 k)⟩
def p7_k0_t4 (arg2 : Memref sig .tc .vmem S512x1024 .bf16) (arg3 : Memref sig .tc .vmem S512x1024 .bf16) (X_arg2 : BufTy.Contents (Elt F) arg2.view.ty) (X_arg3 : BufTy.Contents (Elt F) arg3.view.ty) (k : Fin k0_t4_loop.trips) : View.Piece (Elt F) S4x8x8x128 .f32 :=
  ⟨Rect.unit (s := S4x8x8x128) (k0_off16 k) S1x1x8x128.size (k0_off16_inb k), scaleB (in_k0_t4 arg2 X_arg2 k) (in_k0_t4 arg3 X_arg3 k)⟩
def p8_k0_t4 (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t4_loop.trips) : View.Piece (Elt F) S8x1024 .f32 :=
  ⟨Rect.unit (s := S8x1024) (k0_off14 k) S8x128.size (k0_off14_inb k), accB (in_k0_t4 arg2 X_arg2 k) (in_k0_t4 arg3 X_arg3 k)
    (View.readAt (Elt F) arg8.view (Rect.unit (s := S8x1024) (k0_off14 k) S8x128.size (k0_off14_inb k)).toLoadRect G)⟩

/-- What one trip stores. -/
theorem tripL_k0_t4_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (k : Fin k0_t4_loop.trips)
    (f5 : BufTy.Contents (Elt F) arg5.view.ty) (f6 : BufTy.Contents (Elt F) arg6.view.ty) (f7 : BufTy.Contents (Elt F) arg7.view.ty) (f8 : BufTy.Contents (Elt F) arg8.view.ty) :
    tripL_k0_t4 (F := F) 𝒱 c bd i arg2 harg2 arg3 harg3 arg4 harg4 arg5 harg5 arg6 harg6 arg7 harg7 arg8 harg8 X_arg2 X_arg3 k f5 f6 f7 f8
      = ([p5_k0_t4 arg2 arg3 X_arg2 X_arg3 k], [p6_k0_t4 arg2 arg3 X_arg2 X_arg3 k], [p7_k0_t4 arg2 arg3 X_arg2 X_arg3 k], [p8_k0_t4 arg2 arg3 X_arg2 X_arg3 arg8 f8 k]) := by
  unfold tripL_k0_t4 trip_k0_t4 p5_k0_t4 p6_k0_t4 p7_k0_t4 p8_k0_t4 codeTB scaleB codeB expB accB
  rfl

/-- Two trips touch different columns of the accumulator. -/
theorem col_k0_t4 (k j : Fin k0_t4_loop.trips) (h : j.val < k.val) (y : S8x1024.Idx)
    (hy : y ∈ (Rect.unit (s := S8x1024) (k0_off14 k) S8x128.size (k0_off14_inb k)).set) :
    y ∉ (Rect.unit (s := S8x1024) (k0_off14 j) S8x128.size (k0_off14_inb j)).set := by
  intro hy'
  rw [Rect.mem_set_unit] at hy hy'
  have h1 := (hy 1).1
  have h2 := (hy' 1).2
  rw [k0_off14_eq] at h1 h2
  have e1 : (![0, 128 * k.val] : Fin 2 → ℕ) 1 = 128 * k.val := rfl
  have e2 : (![0, 128 * j.val] : Fin 2 → ℕ) 1 = 128 * j.val := rfl
  have e3 : S8x128.size 1 = 128 := rfl
  simp only [Matrix.cons_val_one, Matrix.cons_val_fin_one, e3] at h1 h2
  omega

/-- A trip reads the accumulator as the loop found it. -/
theorem p8_k0_t4_writes (arg2 : Memref sig .tc .vmem S512x1024 .bf16) (arg3 : Memref sig .tc .vmem S512x1024 .bf16) (X_arg2 : BufTy.Contents (Elt F) arg2.view.ty) (X_arg3 : BufTy.Contents (Elt F) arg3.view.ty) (arg8 : Memref sig .tc .vmem S8x1024 .f32) (G : BufTy.Contents (Elt F) arg8.view.ty) (k : Fin k0_t4_loop.trips) :
    p8_k0_t4 arg2 arg3 X_arg2 X_arg3 arg8 (arg8.view.writes (Elt F) G (upto (p8_k0_t4 arg2 arg3 X_arg2 X_arg3 arg8 G) k.val)) k = p8_k0_t4 arg2 arg3 X_arg2 X_arg3 arg8 G k := by
  unfold p8_k0_t4
  rw [View.readAt_writes_of_forall_not_mem]
  intro y pc hpc hy
  obtain ⟨j, hj, rfl⟩ := mem_upto _ _ _ hpc
  exact col_k0_t4 k j hj _ (LoadRect.idx_mem _ y) hy

/-- What the trips before `k` store. -/
theorem pb_k0_t4_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    ∀ k : ℕ, pb_k0_t4 (F := F) 𝒱 c bd i arg2 harg2 arg3 harg3 arg4 harg4 arg5 harg5 arg6 harg6 arg7 harg7 arg8 harg8 X_arg2 X_arg3 G_arg5 G_arg6 G_arg7 G_arg8 k
      = (upto (p5_k0_t4 arg2 arg3 X_arg2 X_arg3) k, upto (p6_k0_t4 arg2 arg3 X_arg2 X_arg3) k, upto (p7_k0_t4 arg2 arg3 X_arg2 X_arg3) k, upto (p8_k0_t4 arg2 arg3 X_arg2 X_arg3 arg8 G_arg8) k)
  | 0 => rfl
  | k + 1 => by
    by_cases h : k < k0_t4_loop.trips
    · refine (pb_k0_t4_succ (F := F) 𝒱 c bd i arg2 harg2 arg3 harg3 arg4 harg4 arg5 harg5 arg6 harg6 arg7 harg7 arg8 harg8 X_arg2 X_arg3 G_arg5 G_arg6 G_arg7 G_arg8 ⟨k, h⟩).trans ?_
      rw [pb_k0_t4_eq 𝒱 c bd i arg2 harg2 arg3 harg3 arg4 harg4 arg5 harg5 arg6 harg6 arg7 harg7 arg8 harg8 X_arg2 X_arg3 G_arg5 G_arg6 G_arg7 G_arg8 k, tripL_k0_t4_eq]
      dsimp only
      rw [p8_k0_t4_writes arg2 arg3 X_arg2 X_arg3 arg8 G_arg8 ⟨k, h⟩]
      rw [← upto_succ _ ⟨k, h⟩, ← upto_succ _ ⟨k, h⟩, ← upto_succ _ ⟨k, h⟩, ← upto_succ _ ⟨k, h⟩]
    · rw [pb_k0_t4.eq_2]
      unfold pb_k0_t4Step
      rw [dif_neg h, pb_k0_t4_eq 𝒱 c bd i arg2 harg2 arg3 harg3 arg4 harg4 arg5 harg5 arg6 harg6 arg7 harg7 arg8 harg8 X_arg2 X_arg3 G_arg5 G_arg6 G_arg7 G_arg8 k]
      simp only [upto, dif_neg h, List.nil_append]

/-- The invariant before trip `k`, in closed form. -/
abbrev cinv_k0_t4 (c : Dev nD) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (upto (p5_k0_t4 arg2 arg3 X_arg2 X_arg3) k)⌝) ∗ (∃ f, (arg6.view.loc (c : Thread nD τ) ↦[arg6.view.set]{fullShare} f) ∗ ⌜f = arg6.view.writes (Elt F) G_arg6 (upto (p6_k0_t4 arg2 arg3 X_arg2 X_arg3) k)⌝) ∗ (∃ f, (arg7.view.loc (c : Thread nD τ) ↦[arg7.view.set]{fullShare} f) ∗ ⌜f = arg7.view.writes (Elt F) G_arg7 (upto (p7_k0_t4 arg2 arg3 X_arg2 X_arg3) k)⌝) ∗ (∃ f, (arg8.view.loc (c : Thread nD τ) ↦[arg8.view.set]{fullShare} f) ∗ ⌜f = arg8.view.writes (Elt F) G_arg8 (upto (p8_k0_t4 arg2 arg3 X_arg2 X_arg3 arg8 G_arg8) k)⌝))

theorem cinv_k0_t4_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty)
    (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    inv_k0_t4 (F := F) 𝒱 c bd i arg2 harg2 arg3 harg3 arg4 harg4 arg5 harg5 arg6 harg6 arg7 harg7 arg8 harg8 X_arg2 X_arg3 G_arg5 G_arg6 G_arg7 G_arg8
      = cinv_k0_t4 (F := F) c arg2 harg2 arg3 harg3 arg4 harg4 arg5 harg5 arg6 harg6 arg7 harg7 arg8 harg8 X_arg2 X_arg3 G_arg5 G_arg6 G_arg7 G_arg8 := by
  funext k u
  unfold inv_k0_t4 cinv_k0_t4
  rw [pb_k0_t4_eq]

set_option warn.classDefReducibility false in
/-- The loop by its closed invariant, with the generated instance's step. Its type is the loop's class written out, so that
the generated instance, from which the step is taken, is stated beside it. -/
@[sl_loop] def closedInv_k0_t4 (𝒱 : Variants) (c : Dev nD) (bd : Option 𝒱.V) (E : Set ℕ) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (X_arg2 : BufTy.Contents (Elt F) arg2.view.ty) (X_arg3 : BufTy.Contents (Elt F) arg3.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) :
    Idealize.ShloMosaic.LoopInv (M := MT nD τ sig Unit (Elt F) ℕ (UR sig nD τ) ℕ) Idealize.ShloMosaic.frame (wpE defs₀ 𝒱 (c : Thread nD τ) bd) E
      k0_t4_loop.lb k0_t4_loop.ub k0_t4_loop.st k0_t4_ok () (k0_t4_body (F := F) i arg2 harg2 arg3 harg3 arg4 harg4 arg5 harg5 arg6 harg6 arg7 harg7 arg8 harg8) where
  inv := cinv_k0_t4 (F := F) c arg2 harg2 arg3 harg3 arg4 harg4 arg5 harg5 arg6 harg6 arg7 harg7 arg8 harg8 X_arg2 X_arg3 G_arg5 G_arg6 G_arg7 G_arg8
  step := by
    rw [← cinv_k0_t4_eq 𝒱 c bd i]
    exact (loopInv_k0_t4 (F := F) 𝒱 c bd E i arg2 harg2 arg3 harg3 arg4 harg4 arg5 harg5 arg6 harg6 arg7 harg7 arg8 harg8 X_arg2 X_arg3 G_arg5 G_arg6 G_arg7 G_arg8).step

end Cert.KernelIdeal.Gen

end
-- ==== Proof.KernelIdeal.RunA.lean ====
/- The run of the body at a point whose token index is zero, where the accumulator is cleared first. The text is the generated run's;
   the loops are gone through by their closed invariants. -/
module

public import proofs.«01_k».proof.Proof.Gen.KernelIdeal.Frame.Runs
public import proofs.«01_k».proof.Proof.KernelIdeal.Loops

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 50, 100, 150, 200), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) :
    Σ' (L2 : List (View.Piece (Elt F) S1x1024 .f32)), Σ' (L3 : List (View.Piece (Elt F) S512x1024 .fp8e5m2)), Σ' (L4 : List (View.Piece (Elt F) S1024x512 .fp8e5m2)), Σ' (L5 : List (View.Piece (Elt F) S4x8x8x128 .f32)), { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_dgelu_cast i arg2 harg2 arg3 harg3 arg4 harg4 arg5 harg5 arg6 harg6 arg7 harg7 arg8 harg8) K } := by
  refine ⟨?_, ?_, ?_, ?_, ?_, fun E K => ?run⟩
  case run =>
    simp only [cc0_dgelu_cast_eq_skeleton]; unfold cc0_dgelu_cast_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact HS0

end Cert.KernelIdeal.Gen

end
-- ==== Proof.KernelIdeal.RunB.lean ====
/- The run of the body at a point whose token index is not zero. The text is the generated run's; the loops are gone through by their
   closed invariants. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 249: 245 of 250), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) :
    Σ' (L2 : List (View.Piece (Elt F) S1x1024 .f32)), Σ' (L3 : List (View.Piece (Elt F) S512x1024 .fp8e5m2)), Σ' (L4 : List (View.Piece (Elt F) S1024x512 .fp8e5m2)), Σ' (L5 : List (View.Piece (Elt F) S4x8x8x128 .f32)), { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_dgelu_cast i arg2 harg2 arg3 harg3 arg4 harg4 arg5 harg5 arg6 harg6 arg7 harg7 arg8 harg8) K } := by
  refine ⟨?_, ?_, ?_, ?_, ?_, fun E K => ?run⟩
  case run =>
    simp only [cc0_dgelu_cast_eq_skeleton]; unfold cc0_dgelu_cast_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact HS0

end Cert.KernelIdeal.Gen

end
-- ==== Proof.KernelIdeal.Frame.lean ====
/- The frame of the kernel: what a point leaves in each output's staging buffer, by the runs of its two cases, and the run of the whole
   program. The text is the generated frame's, over the runs whose loops are stated in closed form. -/
module

public import proofs.«01_k».proof.Proof.KernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 2 tile its block (1 store of `S1x1024`, checked by the kernel's evaluation: Lib/Ring.lean `Piece.tiledL`, linear in the pieces, through a loop's `@[irreducible]` trip theorem too), so they cover it. -/
theorem cover0_A_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) (y : S1x1024.Idx) :
    ∃ pc ∈ (kernelRun0_A c i arg2 harg2 arg3 harg3 arg4 harg4 arg5 harg5 arg6 harg6 arg7 harg7 arg8 harg8 hc0 x0 x1).1, y ∈ pc.1.set :=
  View.cover_of_tiledL (kernelRun0_A c i arg2 harg2 arg3 harg3 arg4 harg4 arg5 harg5 arg6 harg6 arg7 harg7 arg8 harg8 hc0 x0 x1).1 S1x1024.size (by sl_kernel_rfl) y

/-- What case A leaves in output 2's staging buffer: its pieces read back over junk. -/
def out0_A_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) : Vec F S1x1024 .f32 :=
  VO0_2.read (Elt F) (VO0_2.writes (Elt F) VO0_2.junk (kernelRun0_A c i arg2 harg2 arg3 harg3 arg4 harg4 arg5 harg5 arg6 harg6 arg7 harg7 arg8 harg8 hc0 x0 x1).1)

/-- Case A's pieces for output 3 tile its block (32 stores of `S128x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) (y : S512x1024.Idx) :
    ∃ pc ∈ (kernelRun0_A c i arg2 harg2 arg3 harg3 arg4 harg4 arg5 harg5 arg6 harg6 arg7 harg7 arg8 harg8 hc0 x0 x1).2.1, y ∈ pc.1.set :=
  View.cover_of_tiledL (kernelRun0_A c i arg2 harg2 arg3 harg3 arg4 harg4 arg5 harg5 arg6 harg6 arg7 harg7 arg8 harg8 hc0 x0 x1).2.1 S128x128.size (by sl_kernel_rfl) y

/-- What case A leaves in output 3's staging buffer: its pieces read back over junk. -/
def out0_A_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) : Vec F S512x1024 .fp8e5m2 :=
  VO0_3.read (Elt F) (VO0_3.writes (Elt F) VO0_3.junk (kernelRun0_A c i arg2 harg2 arg3 harg3 arg4 harg4 arg5 harg5 arg6 harg6 arg7 harg7 arg8 harg8 hc0 x0 x1).2.1)

/-- Case A's pieces for output 4 tile its block (32 stores of `S128x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) (y : S1024x512.Idx) :
    ∃ pc ∈ (kernelRun0_A c i arg2 harg2 arg3 harg3 arg4 harg4 arg5 harg5 arg6 harg6 arg7 harg7 arg8 harg8 hc0 x0 x1).2.2.1, y ∈ pc.1.set :=
  View.cover_of_tiledL (kernelRun0_A c i arg2 harg2 arg3 harg3 arg4 harg4 arg5 harg5 arg6 harg6 arg7 harg7 arg8 harg8 hc0 x0 x1).2.2.1 S128x128.size (by sl_kernel_rfl) y

/-- What case A leaves in output 4's staging buffer: its pieces read back over junk. -/
def out0_A_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) : Vec F S1024x512 .fp8e5m2 :=
  VO0_4.read (Elt F) (VO0_4.writes (Elt F) VO0_4.junk (kernelRun0_A c i arg2 harg2 arg3 harg3 arg4 harg4 arg5 harg5 arg6 harg6 arg7 harg7 arg8 harg8 hc0 x0 x1).2.2.1)

/-- Case A's pieces for output 5 tile its block (32 stores of `S1x1x8x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) (y : S4x8x8x128.Idx) :
    ∃ pc ∈ (kernelRun0_A c i arg2 harg2 arg3 harg3 arg4 harg4 arg5 harg5 arg6 harg6 arg7 harg7 arg8 harg8 hc0 x0 x1).2.2.2.1, y ∈ pc.1.set :=
  View.cover_of_tiledL (kernelRun0_A c i arg2 harg2 arg3 harg3 arg4 harg4 arg5 harg5 arg6 harg6 arg7 harg7 arg8 harg8 hc0 x0 x1).2.2.2.1 S1x1x8x128.size (by sl_kernel_rfl) y

/-- What case A leaves in output 5's staging buffer: its pieces read back over junk. -/
def out0_A_5 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) : Vec F S4x8x8x128 .f32 :=
  VO0_5.read (Elt F) (VO0_5.writes (Elt F) VO0_5.junk (kernelRun0_A c i arg2 harg2 arg3 harg3 arg4 harg4 arg5 harg5 arg6 harg6 arg7 harg7 arg8 harg8 hc0 x0 x1).2.2.2.1)

/-- Case A's pieces for scratch `arg8`, which the kernel carries between points, cover it: one of them a store of the WHOLE buffer (Lib/Ring.lean `sl_whole_mem`). -/
theorem scover0_A_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) (y : S8x1024.Idx) :
    ∃ pc ∈ (kernelRun0_A c i arg2 harg2 arg3 harg3 arg4 harg4 arg5 harg5 arg6 harg6 arg7 harg7 arg8 harg8 hc0 x0 x1).2.2.2.2.1, y ∈ pc.1.set :=
  View.cover_of_wholeMem (kernelRun0_A c i arg2 harg2 arg3 harg3 arg4 harg4 arg5 harg5 arg6 harg6 arg7 harg7 arg8 harg8 hc0 x0 x1).2.2.2.2.1 (by sl_whole_mem) y

/-- What case A leaves in scratch `arg8`: its pieces read back over junk. -/
def sout0_A_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : cond0_0 i)
    (x0 : Vec F S512x1024 .bf16) (x1 : Vec F S512x1024 .bf16) : Vec F S8x1024 .f32 :=
  VS0_0.read (Elt F) (VS0_0.writes (Elt F) VS0_0.junk (kernelRun0_A c i arg2 harg2 arg3 harg3 arg4 harg4 arg5 harg5 arg6 harg6 arg7 harg7 arg8 harg8 hc0 x0 x1).2.2.2.2.1)

/-- Case B's pieces for output 2 tile its block (1 store of `S1x1024`, checked by the kernel's evaluation: Lib/Ring.lean `Piece.tiledL`, linear in the pieces, through a loop's `@[irreducible]` trip theorem too), so they cover it. -/
theorem cover0_B_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) (y : S1x1024.Idx) :
    ∃ pc ∈ (kernelRun0_B c i arg2 harg2 arg3 harg3 arg4 harg4 arg5 harg5 arg6 harg6 arg7 harg7 arg8 harg8 hc0 x0 x1 xs0).1, y ∈ pc.1.set :=
  View.cover_of_tiledL (kernelRun0_B c i arg2 harg2 arg3 harg3 arg4 harg4 arg5 harg5 arg6 harg6 arg7 harg7 arg8 harg8 hc0 x0 x1 xs0).1 S1x1024.size (by sl_kernel_rfl) y

/-- What case B leaves in output 2's staging buffer: its pieces read back over junk. -/
def out0_B_2 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) : Vec F S1x1024 .f32 :=
  VO0_2.read (Elt F) (VO0_2.writes (Elt F) VO0_2.junk (kernelRun0_B c i arg2 harg2 arg3 harg3 arg4 harg4 arg5 harg5 arg6 harg6 arg7 harg7 arg8 harg8 hc0 x0 x1 xs0).1)

/-- Case B's pieces for output 3 tile its block (32 stores of `S128x128`, checked by the kernel's evaluation: Lib/Ring.lean `Piece.tiledL`, linear in the pieces, through a loop's `@[irreducible]` trip theorem too), so they cover it. -/
theorem cover0_B_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) (y : S512x1024.Idx) :
    ∃ pc ∈ (kernelRun0_B c i arg2 harg2 arg3 harg3 arg4 harg4 arg5 harg5 arg6 harg6 arg7 harg7 arg8 harg8 hc0 x0 x1 xs0).2.1, y ∈ pc.1.set :=
  View.cover_of_tiledL (kernelRun0_B c i arg2 harg2 arg3 harg3 arg4 harg4 arg5 harg5 arg6 harg6 arg7 harg7 arg8 harg8 hc0 x0 x1 xs0).2.1 S128x128.size (by sl_kernel_rfl) y

/-- What case B leaves in output 3's staging buffer: its pieces read back over junk. -/
def out0_B_3 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) : Vec F S512x1024 .fp8e5m2 :=
  VO0_3.read (Elt F) (VO0_3.writes (Elt F) VO0_3.junk (kernelRun0_B c i arg2 harg2 arg3 harg3 arg4 harg4 arg5 harg5 arg6 harg6 arg7 harg7 arg8 harg8 hc0 x0 x1 xs0).2.1)

/-- Case B's pieces for output 4 tile its block (32 stores of `S128x128`, checked by the kernel's evaluation: Lib/Ring.lean `Piece.tiledL`, linear in the pieces, through a loop's `@[irreducible]` trip theorem too), so they cover it. -/
theorem cover0_B_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) (y : S1024x512.Idx) :
    ∃ pc ∈ (kernelRun0_B c i arg2 harg2 arg3 harg3 arg4 harg4 arg5 harg5 arg6 harg6 arg7 harg7 arg8 harg8 hc0 x0 x1 xs0).2.2.1, y ∈ pc.1.set :=
  View.cover_of_tiledL (kernelRun0_B c i arg2 harg2 arg3 harg3 arg4 harg4 arg5 harg5 arg6 harg6 arg7 harg7 arg8 harg8 hc0 x0 x1 xs0).2.2.1 S128x128.size (by sl_kernel_rfl) y

/-- What case B leaves in output 4's staging buffer: its pieces read back over junk. -/
def out0_B_4 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) : Vec F S1024x512 .fp8e5m2 :=
  VO0_4.read (Elt F) (VO0_4.writes (Elt F) VO0_4.junk (kernelRun0_B c i arg2 harg2 arg3 harg3 arg4 harg4 arg5 harg5 arg6 harg6 arg7 harg7 arg8 harg8 hc0 x0 x1 xs0).2.2.1)

/-- Case B's pieces for output 5 tile its block (32 stores of `S1x1x8x128`, checked by the kernel's evaluation: Lib/Ring.lean `Piece.tiledL`, linear in the pieces, through a loop's `@[irreducible]` trip theorem too), so they cover it. -/
theorem cover0_B_5 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) (y : S4x8x8x128.Idx) :
    ∃ pc ∈ (kernelRun0_B c i arg2 harg2 arg3 harg3 arg4 harg4 arg5 harg5 arg6 harg6 arg7 harg7 arg8 harg8 hc0 x0 x1 xs0).2.2.2.1, y ∈ pc.1.set :=
  View.cover_of_tiledL (kernelRun0_B c i arg2 harg2 arg3 harg3 arg4 harg4 arg5 harg5 arg6 harg6 arg7 harg7 arg8 harg8 hc0 x0 x1 xs0).2.2.2.1 S1x1x8x128.size (by sl_kernel_rfl) y

/-- What case B leaves in output 5's staging buffer: its pieces read back over junk. -/
def out0_B_5 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) : Vec F S4x8x8x128 .f32 :=
  VO0_5.read (Elt F) (VO0_5.writes (Elt F) VO0_5.junk (kernelRun0_B c i arg2 harg2 arg3 harg3 arg4 harg4 arg5 harg5 arg6 harg6 arg7 harg7 arg8 harg8 hc0 x0 x1 xs0).2.2.2.1)

/-- Case B's pieces for scratch `arg8`, which the kernel carries between points, cover it: 32 pieces of `S8x128` tiling it (Lib/Ring.lean `Piece.tiledL`). -/
theorem scover0_B_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) (y : S8x1024.Idx) :
    ∃ pc ∈ (kernelRun0_B c i arg2 harg2 arg3 harg3 arg4 harg4 arg5 harg5 arg6 harg6 arg7 harg7 arg8 harg8 hc0 x0 x1 xs0).2.2.2.2.1, y ∈ pc.1.set :=
  View.cover_of_tiledL (kernelRun0_B c i arg2 harg2 arg3 harg3 arg4 harg4 arg5 harg5 arg6 harg6 arg7 harg7 arg8 harg8 hc0 x0 x1 xs0).2.2.2.2.1 S8x128.size (by sl_kernel_rfl) y

/-- What case B leaves in scratch `arg8`: its pieces read back over junk. -/
def sout0_B_0 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole) (hc0 : ¬cond0_0 i)
    (x0 : Vec F S512x1024 .bf16) (x1 : Vec F S512x1024 .bf16) (xs0 : Vec F S8x1024 .f32) : Vec F S8x1024 .f32 :=
  VS0_0.read (Elt F) (VS0_0.writes (Elt F) VS0_0.junk (kernelRun0_B c i arg2 harg2 arg3 harg3 arg4 harg4 arg5 harg5 arg6 harg6 arg7 harg7 arg8 harg8 hc0 x0 x1 xs0).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024 .f32 × Vec F S512x1024 .fp8e5m2 × Vec F S1024x512 .fp8e5m2 × Vec F S4x8x8x128 .f32 × Vec F S8x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩))
  | n + 1, hn =>
    if h0 : (n + 1) % 50 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.2.2)

/-- `outsAt0` at a point of case A: that case's contents. -/
theorem outsAt0_A (c : Dev nD) (t : Fin cfg0.N) (h0 : t.val % 50 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 50 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 250 := lt_of_lt_of_eq t.isLt (show cfg0.N = 250 from N_0)
  by_cases h0 : t.val % 50 = 0
  · by_cases hz : t.val = 0
    · rw [PhiS_castSucc m c t, PhiS_zero m c _ _ hz, PhiA0_eq]
      rw [outsAt0_A m c t h0]
      unfold out0_A_2 out0_A_3 out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t)).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      iintro ⟨H0, H1, ⟨%e2, H2⟩, ⟨%e3, H3⟩, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _)
    · rw [PhiS_castSucc m c t, PhiS_pos m c _ _ hz]
      rw [outsAt0_A m c t h0]
      unfold out0_A_2 out0_A_3 out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t)).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexists _; iexact HS0
      iintro ⟨H0, H1, ⟨%e2, H2⟩, ⟨%e3, H3⟩, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _)
  · by_cases hz : t.val = 0
    · exfalso; have hN : t.val < 250 := lt_of_lt_of_eq t.isLt (show cfg0.N = 250 from N_0); omega
    · rw [PhiS_castSucc m c t, PhiS_pos m c _ _ hz]
      rw [outsAt0_B m c t h0]
      unfold out0_B_2 out0_B_3 out0_B_4 out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      iintro ⟨H0, H1, ⟨%e2, H2⟩, ⟨%e3, H3⟩, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 250 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.Consts.lean ====
/- The float constants the two programs spell, as the extended reals their words denote at `Ideal`, and the words
   `n <<< 23` of the powers of two. Stated once here; no other module unfolds `Ideal.ofBits`. -/
module

public import Idealize.ShloMosaic.PureOps.Ideal

@[expose] public section

noncomputable section

namespace Cert.Gelu

open Idealize.ShloMosaic

/-- `sqrt (2 / pi)` rounded to float32. -/
abbrev kR : ℝ := 6693141 / 8388608
/-- `0.044715` rounded to float32. -/
abbrev cR : ℝ := 12003091 / 268435456
/-- `1 / 57344` rounded to float32. -/
abbrev rR : ℝ := 9586981 / 549755813888

theorem ofBits_zero : Ideal.ofBits .f32 0x00000000#32 = 0 := by
  simp [Ideal.ofBits, Ideal.ieee, -EReal.coe_mul]
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = 1 := by
  rw [← EReal.coe_one]; simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_K : Ideal.ofBits .f32 0x3F4C422A#32 = ((kR : ℝ) : EReal) := by
  simp [Ideal.ofBits, Ideal.ieee, -EReal.coe_mul]; norm_num
theorem ofBits_C : Ideal.ofBits .f32 0x3D372713#32 = ((cR : ℝ) : EReal) := by
  simp [Ideal.ofBits, Ideal.ieee, -EReal.coe_mul]; norm_num
theorem ofBits_R : Ideal.ofBits .f32 0x37924925#32 = ((rR : ℝ) : EReal) := by
  simp [Ideal.ofBits, Ideal.ieee, -EReal.coe_mul]; norm_num
theorem ofBits_hi : Ideal.ofBits .f32 0x47600000#32 = ((57344 : ℝ) : EReal) := by
  simp [Ideal.ofBits, Ideal.ieee, -EReal.coe_mul]; norm_num
theorem ofBits_lo : Ideal.ofBits .f32 0xC7600000#32 = ((-57344 : ℝ) : EReal) := by
  simp [Ideal.ofBits, Ideal.ieee, -EReal.coe_mul]; norm_num
theorem ofBits_bot : Ideal.ofBits .f32 0xFF800000#32 = ⊥ := by
  simp [Ideal.ofBits, Ideal.ieee, -EReal.coe_mul]
theorem ofBits_tiny : Ideal.ofBits .f32 0x00800000#32 = (((2 : ℝ) ^ (-126 : ℤ) : ℝ) : EReal) := by
  simp [Ideal.ofBits, Ideal.ieee, -EReal.coe_mul]; norm_num
/-- The largest finite bfloat16, `2^128 - 2^120`. -/
theorem ofBits_bfmax : Ideal.ofBits .bf16 0x7F7F#16 = ((255 * (2 : ℝ) ^ (120 : ℤ) : ℝ) : EReal) := by
  simp [Ideal.ofBits, Ideal.ieee, -EReal.coe_mul]

/-- The three fields of the word `n <<< 23`: sign `0`, exponent `n`, significand `0`. -/
theorem word_fields : ∀ n : Fin 256, (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by decide +kernel

/-- The word `n <<< 23`, `1 ≤ n ≤ 254`, denotes `2 ^ (n - 127)`. -/
theorem ofBits_pow (n : ℕ) (h1 : 1 ≤ n) (h2 : n ≤ 254) :
    Ideal.ofBits .f32 (BitVec.ofNat 32 n <<< 23) = (((2 : ℝ) ^ ((n : ℤ) - 127) : ℝ) : EReal) := by
  obtain ⟨ha, hb, hc⟩ := word_fields ⟨n, by omega⟩
  dsimp only at ha hb hc
  have e : Ideal.ofBits .f32 (BitVec.ofNat 32 n <<< 23) = Ideal.ieee 8 23 (BitVec.ofNat 32 n <<< 23) := rfl
  rw [e]
  unfold Ideal.ieee
  dsimp only
  rw [ha, hb, hc, if_neg (by omega), if_neg (by omega)]
  refine congrArg (fun r : ℝ => (r : EReal)) ?_
  have h8 : (((2 ^ 23 + 0 : ℕ) : ℝ)) = (2 : ℝ) ^ (23 : ℤ) := by push_cast; norm_num
  have hs : (if (0#1 == 1#1) = true then (-1 : ℝ) else 1) = 1 := if_neg (by decide)
  rw [h8, hs, one_mul, ← zpow_add₀ (by norm_num)]
  refine congrArg (fun k : ℤ => (2 : ℝ) ^ k) ?_
  norm_num

/-- The word `255 <<< 23` denotes `+∞`. -/
theorem ofBits_top : Ideal.ofBits .f32 (BitVec.ofNat 32 255 <<< 23) = ⊤ := by
  obtain ⟨ha, hb, hc⟩ := word_fields ⟨255, by omega⟩
  dsimp only at ha hb hc
  have e : Ideal.ofBits .f32 (BitVec.ofNat 32 255 <<< 23) = Ideal.ieee 8 23 (BitVec.ofNat 32 255 <<< 23) := rfl
  rw [e]
  unfold Ideal.ieee
  dsimp only
  rw [ha, hb, hc, if_pos (by norm_num), if_pos rfl]
  rfl

end Cert.Gelu

end
-- ==== Proof.Exponent.lean ====
/- The block exponent, as the kernel finds it and as the reference states it. The kernel searches the exponent field of
   the float32 word of the ratio `a >= 0` bit by bit, each bit by one comparison with the power of two whose word has
   that field; the reference takes `floor (log a / log 2) + 1`, and `0` below the least normal number. For a real `a`
   from `0` up to `2 ^ 126` both are `expR a`, and the kernel's two words denote `2 ^ expR a` and `2 ^ -expR a`. -/
module

public import proofs.«01_k».proof.Proof.Consts
public import Mathlib.Analysis.SpecialFunctions.Log.Basic

@[expose] public section

noncomputable section

namespace Cert.Gelu

open Idealize.ShloMosaic

/-- One bit of the search: the field raised by `b`, unless the power of two with the raised field exceeds `a`. -/
abbrev stepW (a : EReal) (f b : BitVec 32) : BitVec 32 :=
  Scalar.select (Ideal.cmp .olt a (Ideal.ofBits .f32 (IntOp.shli .vector (IntOp.addi f b) 23#32))) f (IntOp.addi f b)

/-- The search's first five bits. -/
abbrev headW (a : EReal) : BitVec 32 :=
  stepW a (stepW a (stepW a (stepW a (stepW a 0#32 128#32) 64#32) 32#32) 16#32) 8#32

/-- All eight bits: the field of `a`. -/
abbrev fieldW (a : EReal) : BitVec 32 := stepW a (stepW a (stepW a (headW a) 4#32) 2#32) 1#32

/-- The exponent of the scale: the field less 126, and `0` at field `0`. -/
abbrev expW (a : EReal) : BitVec 32 :=
  Scalar.select (IntOp.cmpi .slt (fieldW a) 1#32) 0#32 (IntOp.subi (fieldW a) 126#32)

/-- The power of two of exponent `e`, as the word the kernel builds denotes it. -/
abbrev pow2W (e : BitVec 32) : EReal := Ideal.ofBits .f32 (IntOp.shli .vector (IntOp.addi e 127#32) 23#32)

/-- The integer part of the logarithm to base two. -/
def logR (r : ℝ) : ℤ := ⌊Real.log r / Real.log 2⌋

/-- The exponent field of a real `r >= 0`. -/
def fieldR (r : ℝ) : ℕ := if r < (2 : ℝ) ^ (-126 : ℤ) then 0 else (logR r + 127).toNat

/-- The exponent of the scale of a real `r >= 0`. -/
def expR (r : ℝ) : ℤ := if r < (2 : ℝ) ^ (-126 : ℤ) then 0 else logR r + 1

theorem tiny_pos : (0 : ℝ) < (2 : ℝ) ^ (-126 : ℤ) := by positivity

/-- A positive real is below `2 ^ k` exactly when its integer logarithm is below `k`. -/
theorem lt_zpow_iff {r : ℝ} (hr : 0 < r) (k : ℤ) : r < (2 : ℝ) ^ k ↔ logR r < k := by
  have h2 : 0 < Real.log 2 := Real.log_pos (by norm_num)
  unfold logR
  rw [Int.floor_lt, div_lt_iff₀ h2, ← Real.log_zpow, Real.log_lt_log_iff hr (by positivity)]

/-- At or above the least normal number the integer logarithm is at least `-126`. -/
theorem le_log {r : ℝ} (h : ¬r < (2 : ℝ) ^ (-126 : ℤ)) : -126 ≤ logR r :=
  not_lt.mp fun hc => h ((lt_zpow_iff (lt_of_lt_of_le tiny_pos (not_lt.mp h)) _).mpr hc)

/-- `r` is below the power of two with field `n` exactly when its own field is below `n`. -/
theorem lt_pow_iff {r : ℝ} (n : ℕ) (h1 : 1 ≤ n) : r < (2 : ℝ) ^ ((n : ℤ) - 127) ↔ fieldR r < n := by
  unfold fieldR
  split_ifs with h
  · refine ⟨fun _ => by omega, fun _ => lt_of_lt_of_le h ?_⟩
    exact zpow_le_zpow_right₀ (by norm_num) (by omega)
  · have hl := le_log h
    rw [lt_zpow_iff (lt_of_lt_of_le tiny_pos (not_lt.mp h))]
    omega

/-- Shifting a word left by 23 as the vector unit does it. -/
theorem shli23 (x : BitVec 32) : IntOp.shli .vector x 23#32 = x <<< 23 := rfl

/-- The comparison of a step, for a field `n` from 1 to 255. -/
theorem cmp_step {r : ℝ} (n : ℕ) (h1 : 1 ≤ n) (h2 : n ≤ 255) (hr : fieldR r < 255) :
    Ideal.cmp .olt (r : EReal) (Ideal.ofBits .f32 (IntOp.shli .vector (BitVec.ofNat 32 n) 23#32))
      = BitVec.ofBool (decide (fieldR r < n)) := by
  rw [shli23]
  rcases Nat.lt_or_ge n 255 with h | h
  · rw [ofBits_pow n h1 (by omega)]
    show BitVec.ofBool (decide _) = _
    refine congrArg BitVec.ofBool (decide_eq_decide.mpr ?_)
    rw [EReal.coe_lt_coe_iff]
    exact lt_pow_iff n h1
  · obtain rfl : n = 255 := by omega
    rw [ofBits_top]
    show BitVec.ofBool (decide _) = _
    refine congrArg BitVec.ofBool (decide_eq_decide.mpr ?_)
    exact ⟨fun _ => hr, fun _ => EReal.coe_lt_top r⟩

/-- One step halves the interval that holds the field. -/
theorem step_word {r : ℝ} (hr : fieldR r < 255) (n b : ℕ) (hb : 1 ≤ b) (h : n + 2 * b ≤ 256)
    (hlo : n ≤ fieldR r) (hhi : fieldR r < n + 2 * b) :
    ∃ n', stepW (r : EReal) (BitVec.ofNat 32 n) (BitVec.ofNat 32 b) = BitVec.ofNat 32 n'
      ∧ n' + b ≤ 256 ∧ n' ≤ fieldR r ∧ fieldR r < n' + b := by
  have e : IntOp.addi (BitVec.ofNat 32 n) (BitVec.ofNat 32 b) = BitVec.ofNat 32 (n + b) := by
    unfold IntOp.addi; exact (BitVec.ofNat_add n b).symm
  unfold stepW
  rw [e, cmp_step (n + b) (by omega) (by omega) hr]
  unfold Scalar.select
  by_cases hc : fieldR r < n + b
  · refine ⟨n, ?_, by omega, hlo, hc⟩
    rw [decide_eq_true hc]; rfl
  · refine ⟨n + b, ?_, by omega, by omega, by omega⟩
    rw [decide_eq_false hc]; rfl

/-- The search finds the field. -/
theorem field_word {r : ℝ} (hr : fieldR r < 255) : fieldW (r : EReal) = BitVec.ofNat 32 (fieldR r) := by
  obtain ⟨n1, e1, a1, b1, c1⟩ := step_word hr 0 128 (by omega) (by omega) (by omega) (by omega)
  obtain ⟨n2, e2, a2, b2, c2⟩ := step_word hr n1 64 (by omega) (by omega) (by omega) (by omega)
  obtain ⟨n3, e3, a3, b3, c3⟩ := step_word hr n2 32 (by omega) (by omega) (by omega) (by omega)
  obtain ⟨n4, e4, a4, b4, c4⟩ := step_word hr n3 16 (by omega) (by omega) (by omega) (by omega)
  obtain ⟨n5, e5, a5, b5, c5⟩ := step_word hr n4 8 (by omega) (by omega) (by omega) (by omega)
  obtain ⟨n6, e6, a6, b6, c6⟩ := step_word hr n5 4 (by omega) (by omega) (by omega) (by omega)
  obtain ⟨n7, e7, a7, b7, c7⟩ := step_word hr n6 2 (by omega) (by omega) (by omega) (by omega)
  obtain ⟨n8, e8, a8, b8, c8⟩ := step_word hr n7 1 (by omega) (by omega) (by omega) (by omega)
  obtain rfl : n8 = fieldR r := by omega
  unfold fieldW headW
  rw [e1, e2, e3, e4, e5, e6, e7, e8]

/-- What the two words of a field are: checked for every field up to 252. -/
theorem exp_words : ∀ n : Fin 253,
    IntOp.addi (Scalar.select (IntOp.cmpi .slt (BitVec.ofNat 32 n.val) 1#32) 0#32 (IntOp.subi (BitVec.ofNat 32 n.val) 126#32)) 127#32
        = BitVec.ofNat 32 (if n.val = 0 then 127 else n.val + 1)
    ∧ IntOp.addi (IntOp.subi 0#32 (Scalar.select (IntOp.cmpi .slt (BitVec.ofNat 32 n.val) 1#32) 0#32 (IntOp.subi (BitVec.ofNat 32 n.val) 126#32))) 127#32
        = BitVec.ofNat 32 (if n.val = 0 then 127 else 253 - n.val) := by decide +kernel

/-- A real below `2 ^ 126` has its field at most 252. -/
theorem field_le {r : ℝ} (h : r < (2 : ℝ) ^ (126 : ℤ)) : fieldR r < 253 :=
  (lt_pow_iff 253 (by omega)).mp (by rw [show ((253 : ℕ) : ℤ) - 127 = 126 by norm_num]; exact h)

/-- The exponent from the field. -/
theorem expR_eq (r : ℝ) : expR r = if fieldR r = 0 then 0 else (fieldR r : ℤ) - 126 := by
  unfold expR fieldR
  split_ifs with h h2 h3
  · rfl
  · exact absurd rfl h2
  · have := le_log h; omega
  · have := le_log h; omega

/-- The kernel's scale is `2 ^ expR r`. -/
theorem scale_word {r : ℝ} (h : r < (2 : ℝ) ^ (126 : ℤ)) : pow2W (expW (r : EReal)) = (((2 : ℝ) ^ expR r : ℝ) : EReal) := by
  have hf := field_le h
  unfold pow2W expW
  rw [field_word (by omega), (exp_words ⟨fieldR r, hf⟩).1, shli23, expR_eq]
  dsimp only
  split_ifs with h0
  · rw [ofBits_pow 127 (by omega) (by omega)]; norm_num
  · rw [ofBits_pow _ (by omega) (by omega)]
    refine congrArg (fun k : ℤ => (((2 : ℝ) ^ k : ℝ) : EReal)) ?_
    push_cast; ring

/-- The kernel's reciprocal scale is `2 ^ -expR r`. -/
theorem inv_word {r : ℝ} (h : r < (2 : ℝ) ^ (126 : ℤ)) :
    pow2W (IntOp.subi 0#32 (expW (r : EReal))) = (((2 : ℝ) ^ (-expR r) : ℝ) : EReal) := by
  have hf := field_le h
  unfold pow2W expW
  rw [field_word (by omega), (exp_words ⟨fieldR r, hf⟩).2, shli23, expR_eq]
  dsimp only
  split_ifs with h0
  · rw [ofBits_pow 127 (by omega) (by omega)]; norm_num
  · rw [ofBits_pow _ (by omega) (by omega)]
    refine congrArg (fun k : ℤ => (((2 : ℝ) ^ k : ℝ) : EReal)) ?_
    rw [Nat.cast_sub (by omega)]
    push_cast; ring

/-- The reference's exponent: `floor (log a / log 2) + 1`, and `0` below the least normal number. -/
abbrev expRef (a : EReal) : EReal :=
  Scalar.select (Ideal.cmp .olt a (Ideal.ofBits .f32 0x00800000#32)) (Ideal.ofBits .f32 0x00000000#32)
    (Ideal.liftRound Int.floor (Ideal.div (Ideal.log a) (Ideal.log (Ideal.ofBits .f32 0x40000000#32)))
      + Ideal.ofBits .f32 0x3F800000#32)

theorem expRef_eq (r : ℝ) : expRef (r : EReal) = ((expR r : ℝ) : EReal) := by
  unfold expRef expR
  rw [ofBits_tiny, ofBits_zero, ofBits_two, ofBits_one]
  show Scalar.select (BitVec.ofBool (decide _)) _ _ = _
  unfold Scalar.select
  by_cases h : r < (2 : ℝ) ^ (-126 : ℤ)
  · rw [if_pos h, decide_eq_true (EReal.coe_lt_coe_iff.mpr h), if_pos (by decide)]; norm_num
  · have hr : 0 < r := lt_of_lt_of_le tiny_pos (not_lt.mp h)
    rw [if_neg h, decide_eq_false (fun hc => h (EReal.coe_lt_coe_iff.mp hc)), if_neg (by decide)]
    rw [Ideal.log_coe, if_neg (not_le.mpr hr), Ideal.log_coe, if_neg (by norm_num),
      Ideal.div_coe (Real.log_pos (by norm_num)).ne', ← EReal.coe_mul, Ideal.liftRound_coe, ← EReal.coe_one, ← EReal.coe_add]
    refine congrArg (fun r : ℝ => (r : EReal)) ?_
    unfold logR
    rw [mul_one_div]
    push_cast
    rfl

/-- The reference's powers of two, at an integer exponent. -/
theorem pow_two_int (k : ℤ) : Ideal.pow (Ideal.ofBits .f32 0x40000000#32) ((k : ℝ) : EReal) = (((2 : ℝ) ^ k : ℝ) : EReal) := by
  rw [ofBits_two, Ideal.pow_coe_coe]
  exact congrArg (fun r : ℝ => (r : EReal)) (Real.rpow_intCast 2 k)

end Cert.Gelu

end
-- ==== Proof.Scalar.lean ====
/- One element of the gradient. `twice x g` is what the kernel computes, twice the gradient with the polynomial of the
   tanh argument in its factored form; `dgelu x g` is the reference's formula. At `Ideal` half of the first is the
   second, at every extended real, and the first is bounded when `g` is: the derivative of the activation is. -/
module

public import proofs.«01_k».proof.Proof.Consts
public import Mathlib.Analysis.SpecialFunctions.Trigonometric.DerivHyp

@[expose] public section

noncomputable section

namespace Cert.Gelu

open Idealize.ShloMosaic

abbrev kE : EReal := ((kR : ℝ) : EReal)
abbrev cE : EReal := ((cR : ℝ) : EReal)
abbrev kcE : EReal := ((kR * cR : ℝ) : EReal)
abbrev halfE : EReal := ((1 / 2 : ℝ) : EReal)
abbrev threeE : EReal := ((3 : ℝ) : EReal)

/-- Twice the derivative of the activation, in the kernel's form. -/
def twiceD (x : EReal) : EReal :=
  (1 + Ideal.tanh (x * (x * x * kcE + kE)))
    + x * (x * x * kcE * threeE + kE)
      * (1 - Ideal.tanh (x * (x * x * kcE + kE)) * Ideal.tanh (x * (x * x * kcE + kE)))

/-- Twice the gradient, in the kernel's form. -/
def twice (x g : EReal) : EReal := g * twiceD x

/-- The derivative of the activation, in the reference's form. -/
def dgeluD (x : EReal) : EReal :=
  halfE * (1 + Ideal.tanh (kE * (x + cE * x * x * x)))
    + halfE * x * (1 - Ideal.tanh (kE * (x + cE * x * x * x)) * Ideal.tanh (kE * (x + cE * x * x * x))) * kE
      * (1 + threeE * (cE * x * x))

/-- The gradient, in the reference's form. -/
def dgelu (x g : EReal) : EReal := g * dgeluD x

/-- The kernel's argument of tanh at a real. -/
def argR (x : ℝ) : ℝ := x * (x * x * (kR * cR) + kR)

/-- Twice the derivative at a real. -/
def twiceR (x : ℝ) : ℝ :=
  (1 + Real.tanh (argR x)) + x * (x * x * (kR * cR) * 3 + kR) * (1 - Real.tanh (argR x) * Real.tanh (argR x))

theorem twiceD_coe (x : ℝ) : twiceD (x : EReal) = ((twiceR x : ℝ) : EReal) := by
  unfold twiceD twiceR argR
  simp only [← EReal.coe_mul, ← EReal.coe_add, Ideal.tanh_coe, ← EReal.coe_one, ← EReal.coe_sub]

theorem dgeluD_coe (x : ℝ) : dgeluD (x : EReal) = ((1 / 2 * twiceR x : ℝ) : EReal) := by
  unfold dgeluD twiceR
  have h : kR * (x + cR * x * x * x) = argR x := by unfold argR; ring
  simp only [← EReal.coe_mul, ← EReal.coe_add, Ideal.tanh_coe, ← EReal.coe_one, ← EReal.coe_sub, h]
  refine congrArg (fun r : ℝ => (r : EReal)) ?_
  ring

theorem kc_pos : (0 : EReal) < kcE := by
  rw [← EReal.coe_zero]; exact EReal.coe_lt_coe_iff.mpr (by norm_num)
theorem k_pos : (0 : EReal) < kE := by
  rw [← EReal.coe_zero]; exact EReal.coe_lt_coe_iff.mpr (by norm_num)
theorem c_pos : (0 : EReal) < cE := by
  rw [← EReal.coe_zero]; exact EReal.coe_lt_coe_iff.mpr (by norm_num)
theorem half_pos' : (0 : EReal) < halfE := by
  rw [← EReal.coe_zero]; exact EReal.coe_lt_coe_iff.mpr (by norm_num)
theorem one_sub_one : (1 : EReal) - 1 = 0 := by
  rw [← EReal.coe_one, ← EReal.coe_sub, sub_self, EReal.coe_zero]
theorem neg_one_mul_neg_one : (-1 : EReal) * -1 = 1 := by
  rw [neg_mul_neg, one_mul]

theorem twiceD_top : twiceD ⊤ = 1 + 1 := by
  unfold twiceD
  rw [EReal.top_mul_top, EReal.top_mul_of_pos kc_pos, EReal.top_add_coe, EReal.top_mul_top, Ideal.tanh_top, one_mul,
    one_sub_one, mul_zero, add_zero]

theorem twiceD_bot : twiceD ⊥ = 0 := by
  unfold twiceD
  rw [EReal.bot_mul_bot, EReal.top_mul_of_pos kc_pos, EReal.top_add_coe, EReal.bot_mul_top, Ideal.tanh_bot,
    neg_one_mul_neg_one, one_sub_one, mul_zero, add_zero, ← sub_eq_add_neg, one_sub_one]

theorem dgeluD_top : dgeluD ⊤ = halfE * (1 + 1) := by
  unfold dgeluD
  rw [EReal.mul_top_of_pos c_pos, EReal.top_mul_top, EReal.top_mul_top, EReal.top_add_top, EReal.mul_top_of_pos k_pos,
    Ideal.tanh_top, one_mul, one_sub_one, mul_zero, zero_mul, zero_mul, add_zero]

theorem dgeluD_bot : dgeluD ⊥ = 0 := by
  unfold dgeluD
  rw [EReal.mul_bot_of_pos c_pos, EReal.bot_mul_bot, EReal.top_mul_bot, EReal.bot_add, EReal.mul_bot_of_pos k_pos,
    Ideal.tanh_bot, neg_one_mul_neg_one, one_sub_one, mul_zero, zero_mul, zero_mul, add_zero, ← sub_eq_add_neg, one_sub_one,
    mul_zero]

/-- Half the kernel's derivative is the reference's. -/
theorem half_twiceD (x : EReal) : halfE * twiceD x = dgeluD x := by
  induction x with
  | bot => rw [twiceD_bot, dgeluD_bot, mul_zero]
  | top => rw [twiceD_top, dgeluD_top]
  | coe x => rw [twiceD_coe, dgeluD_coe, ← EReal.coe_mul]

/-- Half the kernel's element is the reference's. -/
theorem half_twice (x g : EReal) : halfE * twice x g = dgelu x g := by
  unfold twice dgelu
  rw [mul_left_comm, half_twiceD]

/-! ## The bound -/

theorem sq_le_cosh_sq (y : ℝ) : 1 + y ^ 2 ≤ Real.cosh y ^ 2 := by
  have h : y ^ 2 ≤ Real.sinh y ^ 2 := by
    rcases le_total 0 y with h | h
    · have := Real.self_le_sinh_iff.mpr h
      exact pow_le_pow_left₀ h this 2
    · have := Real.self_le_sinh_iff.mpr (neg_nonneg.mpr h)
      have := pow_le_pow_left₀ (neg_nonneg.mpr h) this 2
      rw [Real.sinh_neg] at this
      simpa using this
  have := Real.cosh_sq y
  linarith

theorem one_sub_tanh_sq (y : ℝ) : 1 - Real.tanh y * Real.tanh y = 1 / Real.cosh y ^ 2 := by
  rw [Real.tanh_eq_sinh_div_cosh]
  have hc : Real.cosh y ≠ 0 := (Real.cosh_pos y).ne'
  have := Real.cosh_sq y
  field_simp
  linarith

theorem tanh_sq_le (y : ℝ) : Real.tanh y * Real.tanh y ≤ 1 := by
  have := one_sub_tanh_sq y
  have h : 0 ≤ 1 / Real.cosh y ^ 2 := by positivity
  linarith

/-- Twice the derivative is at most four in magnitude. -/
theorem abs_twiceR_le (x : ℝ) : |twiceR x| ≤ 4 := by
  unfold twiceR
  set y := argR x with hy
  set t := Real.tanh y with ht
  have h1 : |t| ≤ 1 := by
    have := tanh_sq_le y
    exact abs_le_one_iff_mul_self_le_one.mpr this
  have h2 := abs_le.mp h1
  set d := x * (x * x * (kR * cR) * 3 + kR) with hd
  have hdy : |d| ≤ 3 * |y| := by
    have hk : (0 : ℝ) < kR := by norm_num
    have hkc : (0 : ℝ) < kR * cR := by norm_num
    rw [hd, hy]
    unfold argR
    have hx : 0 ≤ x * x := mul_self_nonneg x
    have hm : 0 ≤ x * x * (kR * cR) := mul_nonneg hx hkc.le
    rw [abs_mul, abs_mul, abs_of_nonneg (a := x * x * (kR * cR) * 3 + kR) (by linarith),
      abs_of_nonneg (a := x * x * (kR * cR) + kR) (by linarith)]
    have h3 := mul_nonneg (abs_nonneg x) hk.le
    have h4 : 3 * (|x| * (x * x * (kR * cR) + kR)) - |x| * (x * x * (kR * cR) * 3 + kR) = 2 * (|x| * kR) := by ring
    linarith
  have hq : |d * (1 - t * t)| ≤ 2 := by
    rw [ht, one_sub_tanh_sq, abs_mul, abs_of_nonneg (a := 1 / Real.cosh y ^ 2) (by positivity), mul_one_div, div_le_iff₀ (by positivity)]
    have := sq_le_cosh_sq y
    have hs : |y| ^ 2 = y ^ 2 := sq_abs y
    nlinarith [sq_nonneg (|y| - 1)]
  have hq' := abs_le.mp hq
  rw [abs_le]
  constructor <;> linarith [h2.1, h2.2, hq'.1, hq'.2]

end Cert.Gelu

end
-- ==== Proof.Greatest.lean ====
/- The greatest element of an array, followed through maximum reductions. -/
module

public import Idealize.ShloMosaic.PureOps.Ideal.Laws

@[expose] public section

noncomputable section

namespace Cert.Gelu

open Idealize.ShloMosaic

/-- The maximum of a nonempty family, folded from `⊥`, is its greatest element. -/
theorem fold_greatest {ι : Type*} (s : Finset ι) (hs : s.Nonempty) (f : ι → EReal) :
    IsGreatest (f '' (s : Set ι)) (s.fold max ⊥ f) := by
  have up : ∀ x ∈ s, f x ≤ s.fold max ⊥ f := fun x hx => (Finset.le_fold_max (f x)).mpr (.inr ⟨x, hx, le_rfl⟩)
  refine ⟨?_, ?_⟩
  · rcases (Finset.le_fold_max (s.fold max ⊥ f)).mp le_rfl with h | ⟨x, hx, h⟩
    · obtain ⟨x, hx⟩ := hs
      exact ⟨x, hx, le_antisymm (up x hx) (h.trans bot_le)⟩
    · exact ⟨x, hx, le_antisymm (up x hx) h⟩
  · rintro _ ⟨x, hx, rfl⟩
    exact up x hx

/-- The maximum of the columns' maxima is the greatest element of the rectangle. -/
theorem fold_fold_greatest {n k : ℕ} (hn : 0 < n) (hk : 0 < k) (f : Fin n → Fin k → EReal) :
    IsGreatest (Set.range fun z : Fin n × Fin k => f z.1 z.2)
      ((Finset.univ : Finset (Fin k)).fold max ⊥ fun l => (Finset.univ : Finset (Fin n)).fold max ⊥ fun r => f r l) := by
  have inner := fun l => fold_greatest (Finset.univ : Finset (Fin n)) ⟨⟨0, hn⟩, Finset.mem_univ _⟩ fun r => f r l
  have outer := fold_greatest (Finset.univ : Finset (Fin k)) ⟨⟨0, hk⟩, Finset.mem_univ _⟩ fun l =>
    (Finset.univ : Finset (Fin n)).fold max ⊥ fun r => f r l
  refine ⟨?_, ?_⟩
  · obtain ⟨l, -, hl⟩ := outer.1
    obtain ⟨r, -, hr⟩ := (inner l).1
    exact ⟨(r, l), hr.trans hl⟩
  · rintro _ ⟨⟨r, l⟩, rfl⟩
    exact ((inner l).2 ⟨r, Finset.mem_coe.mpr (Finset.mem_univ r), rfl⟩).trans
      (outer.2 ⟨l, Finset.mem_coe.mpr (Finset.mem_univ l), rfl⟩)

/-- The greatest element of the maxima along one axis is that of the array. -/
theorem greatest_of_multiReduction {s t : Shape} {φ : FTy} {a : Fin s.rank} (src : FVec Ideal s φ) (acc : BitVec φ.bits)
    (h : s.Reduces [a] t) (hφ : FKind.Formats φ) (hacc : acc = FKind.maximumf.neutral φ hφ) (hb : Ideal.ofBits φ acc = ⊥)
    (hn : 0 < s.size a) {M : EReal}
    (hM : IsGreatest (Set.range (multiReduction .maximumf [a] t src acc h hφ hacc)) M) : IsGreatest (Set.range src) M := by
  have e : ∀ j, multiReduction .maximumf [a] t src acc h hφ hacc j
      = (Finset.univ : Finset (Fin (s.size a))).fold max ⊥ (src ∘ h.lift j) := fun j => by
    rw [Ideal.multiReduction_maximumf_single src acc h hφ hacc j]
    show Finset.fold max (Ideal.ofBits φ acc) _ _ = _
    rw [hb]
  have g := fun j => fold_greatest (Finset.univ : Finset (Fin (s.size a))) ⟨⟨0, hn⟩, Finset.mem_univ _⟩ (src ∘ h.lift j)
  refine ⟨?_, ?_⟩
  · obtain ⟨j, hj⟩ := hM.1
    obtain ⟨k, -, hk⟩ := (g j).1
    exact ⟨h.lift j k, hk.trans ((e j).symm.trans hj)⟩
  · rintro _ ⟨i, rfl⟩
    refine le_trans ?_ (hM.2 ⟨h.drop i, rfl⟩)
    rw [e]
    refine (g (h.drop i)).2 ⟨i a, Finset.mem_coe.mpr (Finset.mem_univ _), ?_⟩
    exact congrArg src (h.lift_drop i)

/-- A reshape has the same elements. -/
theorem greatest_of_shapeCast {s t : Shape} (x : s.Idx → EReal) (h : s.ShapeCasts t) {M : EReal}
    (hM : IsGreatest (Set.range (shapeCast t x h)) M) : IsGreatest (Set.range x) M := by
  rwa [show Set.range (shapeCast t x h) = Set.range x from (Shape.reshapeEquiv h).surjective.range_comp x] at hM

end Cert.Gelu
-- ==== Proof.Quant.lean ====
/- The quantiser of one block: the kernel's scale and codes, off twice the gradient and by words, are the reference's,
   off the gradient and by logarithm and power. -/
module

public import proofs.«01_k».proof.Proof.Exponent
public import proofs.«01_k».proof.Proof.Scalar
public import proofs.«01_k».proof.Proof.Greatest

@[expose] public section

noncomputable section

namespace Cert.Gelu

open Idealize.ShloMosaic

/-- The largest finite bfloat16. -/
abbrev bfE : EReal := ((255 * (2 : ℝ) ^ (120 : ℤ) : ℝ) : EReal)

theorem abs_dgelu (x g : EReal) : max (dgelu x g) (-(dgelu x g)) = halfE * max (twice x g) (-(twice x g)) := by
  have mono : Monotone fun t : EReal => halfE * t := fun a b h => mul_le_mul_of_nonneg_left h half_pos'.le
  rw [← half_twice, ← mul_neg]
  exact (mono.map_max).symm

/-- Half the largest magnitude of the doubled gradients is the largest magnitude of the gradients. -/
theorem greatest_half {ι : Type*} (x g : ι → EReal) {M A : EReal}
    (hM : IsGreatest (Set.range fun i => max (twice (x i) (g i)) (-(twice (x i) (g i)))) M)
    (hA : IsGreatest (Set.range fun i => max (dgelu (x i) (g i)) (-(dgelu (x i) (g i)))) A) : halfE * M = A := by
  simp only [abs_dgelu] at hA
  obtain ⟨i, hi⟩ := hM.1
  obtain ⟨j, hj⟩ := hA.1
  dsimp only at hi hj
  refine le_antisymm ?_ ?_
  · rw [← hi]; exact hA.2 ⟨i, rfl⟩
  · rw [← hj]; exact mul_le_mul_of_nonneg_left (hM.2 ⟨j, rfl⟩) half_pos'.le

/-- The derivative is a real of magnitude at most 4, at every extended real. -/
theorem twiceD_real (x : EReal) : ∃ d : ℝ, twiceD x = (d : EReal) ∧ |d| ≤ 4 := by
  induction x with
  | bot => exact ⟨0, twiceD_bot.trans EReal.coe_zero.symm, by norm_num⟩
  | top => exact ⟨2, twiceD_top.trans (by rw [← EReal.coe_one, ← EReal.coe_add]; norm_num), by norm_num⟩
  | coe x => exact ⟨_, twiceD_coe x, abs_twiceR_le x⟩

/-- Twice the gradient is a bounded real if the incoming gradient is a finite bfloat16. -/
theorem twice_real (x g : EReal) (h : max g (-g) ≤ bfE) : ∃ r : ℝ, twice x g = (r : EReal) ∧ |r| ≤ 1020 * (2 : ℝ) ^ (120 : ℤ) := by
  obtain ⟨d, hd, hd4⟩ := twiceD_real x
  unfold twice
  rw [hd]
  induction g with
  | bot => exact absurd ((le_max_right _ _).trans h) (by rw [EReal.neg_bot]; exact not_le.mpr (EReal.coe_lt_top _))
  | top => exact absurd ((le_max_left _ _).trans h) (not_le.mpr (EReal.coe_lt_top _))
  | coe g =>
    have h1 : |g| ≤ 255 * (2 : ℝ) ^ (120 : ℤ) := by
      rw [abs_le']
      exact ⟨EReal.coe_le_coe_iff.mp ((le_max_left _ _).trans h),
        EReal.coe_le_coe_iff.mp (by rw [EReal.coe_neg]; exact (le_max_right _ _).trans h)⟩
    refine ⟨g * d, (EReal.coe_mul _ _).symm, ?_⟩
    rw [abs_mul]
    calc |g| * |d| ≤ (255 * (2 : ℝ) ^ (120 : ℤ)) * 4 := mul_le_mul h1 hd4 (abs_nonneg _) (by positivity)
      _ = _ := by ring

/-- The ratio of a block is a real below `2 ^ 126`. -/
theorem ratio_real {ι : Type*} (x g : ι → EReal) (hg : ∀ i, max (g i) (-(g i)) ≤ bfE) {M : EReal}
    (hM : IsGreatest (Set.range fun i => max (twice (x i) (g i)) (-(twice (x i) (g i)))) M) :
    ∃ r : ℝ, r < (2 : ℝ) ^ (126 : ℤ) ∧ halfE * M * ((rR : ℝ) : EReal) = (r : EReal) := by
  obtain ⟨i, hi⟩ := hM.1
  dsimp only at hi
  obtain ⟨t, ht, hb⟩ := twice_real (x i) (g i) (hg i)
  have e : M = ((|t| : ℝ) : EReal) := by
    rw [← hi, ht, ← EReal.coe_neg]
    exact (EReal.coe_strictMono.monotone.map_max (a := t) (b := -t)).symm
  refine ⟨1 / 2 * |t| * rR, ?_, ?_⟩
  · have : (0 : ℝ) ≤ |t| := abs_nonneg t
    calc 1 / 2 * |t| * rR ≤ 1 / 2 * (1020 * (2 : ℝ) ^ (120 : ℤ)) * rR := by
          refine mul_le_mul_of_nonneg_right (mul_le_mul_of_nonneg_left hb (by norm_num)) (by norm_num)
      _ < _ := by norm_num
  · rw [e, ← EReal.coe_mul, ← EReal.coe_mul]

/-- The reference's scale, from a block's largest magnitude. -/
abbrev scaleRef (A : EReal) : EReal := Ideal.pow (Ideal.ofBits .f32 0x40000000#32) (expRef (A * ((rR : ℝ) : EReal)))
/-- Its reciprocal. -/
abbrev invRef (A : EReal) : EReal := Ideal.pow (Ideal.ofBits .f32 0x40000000#32) (-(expRef (A * ((rR : ℝ) : EReal))))

section
variable {ι : Type*} (x g : ι → EReal) (hg : ∀ i, max (g i) (-(g i)) ≤ bfE) {M A : EReal}
  (hM : IsGreatest (Set.range fun i => max (twice (x i) (g i)) (-(twice (x i) (g i)))) M)
  (hA : IsGreatest (Set.range fun i => max (dgelu (x i) (g i)) (-(dgelu (x i) (g i)))) A)
include hg hM hA

/-- The kernel's scale is the reference's. -/
theorem scale_eq : pow2W (expW (halfE * M * ((rR : ℝ) : EReal))) = scaleRef A := by
  obtain ⟨r, hr, e⟩ := ratio_real x g hg hM
  unfold scaleRef
  rw [← greatest_half x g hM hA, e, scale_word hr, expRef_eq, pow_two_int]

/-- A value the kernel rounds to a code is the reference's. -/
theorem code_eq (a b : EReal) :
    twice a b * (halfE * pow2W (IntOp.subi 0#32 (expW (halfE * M * ((rR : ℝ) : EReal))))) = dgelu a b * invRef A := by
  obtain ⟨r, hr, e⟩ := ratio_real x g hg hM
  unfold invRef
  rw [← greatest_half x g hM hA, e, inv_word hr, expRef_eq, ← EReal.coe_neg, ← Int.cast_neg, pow_two_int,
    ← half_twice, ← mul_assoc, mul_comm (twice a b) halfE]

end

end Cert.Gelu
-- ==== Proof.Finite.lean ====
/- What the precondition says: no entry of the second input is larger in magnitude than the largest finite bf16. -/
module

public import proofs.«01_k».proof.Pre_grad_finite
public import proofs.«01_k».proof.Proof.Quant
public import Idealize.ShloMosaic.Lib.ReduceAll

@[expose] public section

noncomputable section

namespace Cert.Gelu

open Idealize.ShloMosaic Cert.Pre_grad_finite

/-- The shape relations the precondition's operations take. -/
theorem pre_facts : Cert.Pre_grad_finite.Facts := ⟨by decide, by decide, by decide⟩

theorem bound_of_pre [h : Cert.Pre_grad_finite.Facts] (X G : FVec Ideal S25600x5120 .bf16) (hp : fn (F := Ideal) X G = fun _ => 1#1)
    (i : S25600x5120.Idx) : max (G i) (-(G i)) ≤ bfE := by
  have e := Host.reduce_andi_all _ _ _ _ _ (congrFun hp (fun a => a.elim0)) i
  have e' : BitVec.ofBool (decide (max (G i) (-(G i)) ≤ Ideal.ofBits .bf16 0x7F7F#16)) = 1#1 := e
  rw [ofBits_bfmax] at e'
  by_contra hc
  rw [decide_eq_false hc] at e'
  exact absurd e' (by decide)

end Cert.Gelu
-- ==== Proof.KernelIdeal.Tile.lean ====
/- What one point of the grid leaves, as functions of its two input tiles. A tile is 512 x 1024, cut into 4 x 8 blocks of
   128 x 128. Every block's codes, transposed codes and scale are the block functions of `Loops` at the block of the inputs, and
   the accumulator has every block's column sums added to it, one row of blocks after the other. -/
module

public import proofs.«01_k».proof.Proof.KernelIdeal.RunB
public import Idealize.ShloMosaic.Lib.ValueIdx

@[expose] public section

set_option maxRecDepth 16384

noncomputable section

namespace Cert.KernelIdeal.Gen

open Idealize.ShloMosaic Idealize.ShloMosaic.TcCoe Idealize.ShloMosaic.Tactic Idealize.ShloMosaic.ValueIdx

variable {F : FTy → Type} [FloatOps F] [Named F]

/-- Block `(p, q)` of a tile. -/
def blk (x : Vec F S512x1024 .bf16) (p q : ℕ) : Vec F S128x128 .bf16 := fun z =>
  x (ix2 ⟨(128 * p + (z 0).val) % 512, Nat.mod_lt _ (by norm_num)⟩ ⟨(128 * q + (z 1).val) % 1024, Nat.mod_lt _ (by norm_num)⟩)

/-- The codes of a tile. -/
def tCodes (x g : Vec F S512x1024 .bf16) : Vec F S512x1024 .fp8e5m2 := fun y =>
  codeB (blk x ((y 0).val / 128) ((y 1).val / 128)) (blk g ((y 0).val / 128) ((y 1).val / 128))
    (ix2 ⟨(y 0).val % 128, Nat.mod_lt _ (by norm_num)⟩ ⟨(y 1).val % 128, Nat.mod_lt _ (by norm_num)⟩)

/-- The transposed codes of a tile. -/
def tCodesT (x g : Vec F S512x1024 .bf16) : Vec F S1024x512 .fp8e5m2 := fun y =>
  codeTB (blk x ((y 1).val / 128) ((y 0).val / 128)) (blk g ((y 1).val / 128) ((y 0).val / 128))
    (ix2 ⟨(y 0).val % 128, Nat.mod_lt _ (by norm_num)⟩ ⟨(y 1).val % 128, Nat.mod_lt _ (by norm_num)⟩)

/-- The scales of a tile. -/
def tScale (x g : Vec F S512x1024 .bf16) : Vec F S4x8x8x128 .f32 := fun y =>
  scaleB (blk x (y 0).val (y 1).val) (blk g (y 0).val (y 1).val) (ix4 0 0 (y 2) (y 3))

/-- The 128 columns of the accumulator that block column `q` adds to. -/
def accCols (a : Vec F S8x1024 .f32) (q : ℕ) : Vec F S8x128 .f32 := fun z =>
  a (ix2 (z 0) ⟨(128 * q + (z 1).val) % 1024, Nat.mod_lt _ (by norm_num)⟩)

/-- The accumulator with row `p` of blocks added. -/
def tAcc (x g : Vec F S512x1024 .bf16) (p : ℕ) (a : Vec F S8x1024 .f32) : Vec F S8x1024 .f32 := fun y =>
  accB (blk x p ((y 1).val / 128)) (blk g p ((y 1).val / 128)) (accCols a ((y 1).val / 128))
    (ix2 (y 0) ⟨(y 1).val % 128, Nat.mod_lt _ (by norm_num)⟩)

/-! ## A box of a tile -/

/-- Reading the box at block `(p, q)` reads that block. -/
theorem ld_blk (m : Memref sig .tc .vmem S512x1024 .bf16) (hm : m.IsWhole) (x : Vec F S512x1024 .bf16) (p q : ℕ) (hp : p < 4)
    (hq : q < 8) (off : Fin 2 → ℕ) (inb : ∀ a, off a + S128x128.size a ≤ S512x1024.size a) (h : off = ![128 * p, 128 * q]) :
    View.readAt (Elt F) m.view (Rect.unit (s := S512x1024) off S128x128.size inb).toLoadRect (hm.unread x) = blk x p q := by
  subst h
  funext z
  refine (congrFun (hm.read_unread x) _).trans ?_
  refine congrArg x (funext fun a => ?_)
  have h0 : (z 0).val < 128 := (z 0).isLt
  have h1 : (z 1).val < 128 := (z 1).isLt
  fin_cases a <;> apply Fin.ext
  · show 128 * p + 1 * (z 0).val = (128 * p + (z 0).val) % 512
    rw [Nat.mod_eq_of_lt (by omega)]; omega
  · show 128 * q + 1 * (z 1).val = (128 * q + (z 1).val) % 1024
    rw [Nat.mod_eq_of_lt (by omega)]; omega

/-- Two entries of block functions agree when the blocks and the places in them do. -/
theorem codes_piece (x g : Vec F S512x1024 .bf16) (p q : ℕ) (off : Fin 2 → ℕ)
    (inb : ∀ a, off a + S128x128.size a ≤ S512x1024.size a) (h : off = ![128 * p, 128 * q]) (z : S128x128.Idx) :
    codeB (blk x p q) (blk g p q) z = tCodes x g ((Rect.unit (s := S512x1024) off S128x128.size inb).emb z) := by
  subst h
  have h0 : (z 0).val < 128 := (z 0).isLt
  have h1 : (z 1).val < 128 := (z 1).isLt
  have e0 : (128 * p + 1 * (z 0).val) / 128 = p := by omega
  have e1 : (128 * q + 1 * (z 1).val) / 128 = q := by omega
  have e2 : (128 * p + 1 * (z 0).val) % 128 = (z 0).val := by omega
  have e3 : (128 * q + 1 * (z 1).val) % 128 = (z 1).val := by omega
  show _ = codeB (blk x ((128 * p + 1 * (z 0).val) / 128) ((128 * q + 1 * (z 1).val) / 128))
    (blk g ((128 * p + 1 * (z 0).val) / 128) ((128 * q + 1 * (z 1).val) / 128))
    (ix2 ⟨(128 * p + 1 * (z 0).val) % 128, _⟩ ⟨(128 * q + 1 * (z 1).val) % 128, _⟩)
  simp only [e0, e1, e2, e3]
  exact congrArg _ (eq_ix2 z)

theorem codesT_piece (x g : Vec F S512x1024 .bf16) (p q : ℕ) (off : Fin 2 → ℕ)
    (inb : ∀ a, off a + S128x128.size a ≤ S1024x512.size a) (h : off = ![128 * q, 128 * p]) (z : S128x128.Idx) :
    codeTB (blk x p q) (blk g p q) z = tCodesT x g ((Rect.unit (s := S1024x512) off S128x128.size inb).emb z) := by
  subst h
  have h0 : (z 0).val < 128 := (z 0).isLt
  have h1 : (z 1).val < 128 := (z 1).isLt
  have e0 : (128 * q + 1 * (z 0).val) / 128 = q := by omega
  have e1 : (128 * p + 1 * (z 1).val) / 128 = p := by omega
  have e2 : (128 * q + 1 * (z 0).val) % 128 = (z 0).val := by omega
  have e3 : (128 * p + 1 * (z 1).val) % 128 = (z 1).val := by omega
  show _ = codeTB (blk x ((128 * p + 1 * (z 1).val) / 128) ((128 * q + 1 * (z 0).val) / 128))
    (blk g ((128 * p + 1 * (z 1).val) / 128) ((128 * q + 1 * (z 0).val) / 128))
    (ix2 ⟨(128 * q + 1 * (z 0).val) % 128, _⟩ ⟨(128 * p + 1 * (z 1).val) % 128, _⟩)
  simp only [e0, e1, e2, e3]
  exact congrArg _ (eq_ix2 z)

theorem scale_piece (x g : Vec F S512x1024 .bf16) (p q : ℕ) (off : Fin 4 → ℕ)
    (inb : ∀ a, off a + S1x1x8x128.size a ≤ S4x8x8x128.size a) (h : off = ![p, q, 0, 0]) (z : S1x1x8x128.Idx) :
    scaleB (blk x p q) (blk g p q) z = tScale x g ((Rect.unit (s := S4x8x8x128) off S1x1x8x128.size inb).emb z) := by
  subst h
  have h0 : (z 0).val = 0 := Nat.lt_one_iff.mp (z 0).isLt
  have h1 : (z 1).val = 0 := Nat.lt_one_iff.mp (z 1).isLt
  have e0 : p + 1 * (z 0).val = p := by omega
  have e1 : q + 1 * (z 1).val = q := by omega
  show _ = scaleB (blk x (p + 1 * (z 0).val) (q + 1 * (z 1).val)) (blk g (p + 1 * (z 0).val) (q + 1 * (z 1).val)) _
  simp only [e0, e1]
  refine congrArg _ (funext fun a => ?_)
  fin_cases a <;> apply Fin.ext
  · exact h0
  · exact h1
  · show (z 2).val = 0 + 1 * (z 2).val; omega
  · show (z 3).val = 0 + 1 * (z 3).val; omega

theorem acc_piece (x g : Vec F S512x1024 .bf16) (m : Memref sig .tc .vmem S8x1024 .f32) (G : BufTy.Contents (Elt F) m.view.ty)
    (p q : ℕ) (hq : q < 8) (off : Fin 2 → ℕ) (inb : ∀ a, off a + S8x128.size a ≤ S8x1024.size a) (h : off = ![0, 128 * q])
    (z : S8x128.Idx) :
    accB (blk x p q) (blk g p q) (View.readAt (Elt F) m.view (Rect.unit (s := S8x1024) off S8x128.size inb).toLoadRect G) z
      = tAcc x g p (m.view.read (Elt F) G) ((Rect.unit (s := S8x1024) off S8x128.size inb).emb z) := by
  subst h
  have h1 : (z 1).val < 128 := (z 1).isLt
  have e1 : (128 * q + 1 * (z 1).val) / 128 = q := by omega
  have e3 : (128 * q + 1 * (z 1).val) % 128 = (z 1).val := by omega
  have hr : View.readAt (Elt F) m.view (Rect.unit (s := S8x1024) ![0, 128 * q] S8x128.size inb).toLoadRect G
      = accCols (m.view.read (Elt F) G) q := by
    rw [View.readAt_eq_ld]
    funext w
    refine congrArg (m.view.read (Elt F) G) (funext fun a => ?_)
    have h1 : (w 1).val < 128 := (w 1).isLt
    fin_cases a <;> apply Fin.ext
    · show 0 + 1 * (w 0).val = (w 0).val; omega
    · show 128 * q + 1 * (w 1).val = (128 * q + (w 1).val) % 1024
      rw [Nat.mod_eq_of_lt (by omega)]; omega
  rw [hr]
  show _ = accB (blk x p ((128 * q + 1 * (z 1).val) / 128)) (blk g p ((128 * q + 1 * (z 1).val) / 128))
    (accCols (m.view.read (Elt F) G) ((128 * q + 1 * (z 1).val) / 128)) _
  simp only [e1]
  refine congrArg _ (funext fun a => ?_)
  fin_cases a <;> apply Fin.ext
  · show (z 0).val = 0 + 1 * (z 0).val; omega
  · show (z 1).val = (128 * q + 1 * (z 1).val) % 128; omega

/-! ## The trips of the four loops -/

theorem mem_upto_of_lt {s : Shape} {e : EltTy} {n : ℕ} (P : Fin n → View.Piece (Elt F) s e) (j : Fin n) :
    ∀ k : ℕ, j.val < k → P j ∈ upto P k
  | 0, h => absurd h (Nat.not_lt_zero _)
  | k + 1, h => by
    rw [upto, List.mem_append]
    by_cases hj : j.val < k
    · exact Or.inr (mem_upto_of_lt P j k hj)
    · have e : k = j.val := by omega
      subst e
      rw [dif_pos j.isLt]
      exact Or.inl (List.mem_singleton.mpr rfl)

section
variable (m2 : Memref sig .tc .vmem S512x1024 .bf16) (h2 : m2.IsWhole) (m3 : Memref sig .tc .vmem S512x1024 .bf16) (h3 : m3.IsWhole)
  (x g : Vec F S512x1024 .bf16)

/-- The box at block `(p, q)` of the codes, stored from the inputs' boxes there. -/
theorem codes_box (p q : ℕ) (hp : p < 4) (hq : q < 8) (off : Fin 2 → ℕ)
    (inb : ∀ a, off a + S128x128.size a ≤ S512x1024.size a) (h : off = ![128 * p, 128 * q]) (z : S128x128.Idx) :
    codeB (View.readAt (Elt F) m2.view (Rect.unit (s := S512x1024) off S128x128.size inb).toLoadRect (h2.unread x))
      (View.readAt (Elt F) m3.view (Rect.unit (s := S512x1024) off S128x128.size inb).toLoadRect (h3.unread g)) z
      = tCodes x g ((Rect.unit (s := S512x1024) off S128x128.size inb).emb z) := by
  rw [ld_blk m2 h2 x p q hp hq off inb h, ld_blk m3 h3 g p q hp hq off inb h]
  exact codes_piece x g p q off inb h z

/-- Likewise of the transposed codes. -/
theorem codesT_box (p q : ℕ) (hp : p < 4) (hq : q < 8) (off : Fin 2 → ℕ)
    (inb : ∀ a, off a + S128x128.size a ≤ S512x1024.size a) (h : off = ![128 * p, 128 * q]) (off' : Fin 2 → ℕ)
    (inb' : ∀ a, off' a + S128x128.size a ≤ S1024x512.size a) (h' : off' = ![128 * q, 128 * p]) (z : S128x128.Idx) :
    codeTB (View.readAt (Elt F) m2.view (Rect.unit (s := S512x1024) off S128x128.size inb).toLoadRect (h2.unread x))
      (View.readAt (Elt F) m3.view (Rect.unit (s := S512x1024) off S128x128.size inb).toLoadRect (h3.unread g)) z
      = tCodesT x g ((Rect.unit (s := S1024x512) off' S128x128.size inb').emb z) := by
  rw [ld_blk m2 h2 x p q hp hq off inb h, ld_blk m3 h3 g p q hp hq off inb h]
  exact codesT_piece x g p q off' inb' h' z

/-- Likewise of the scales. -/
theorem scale_box (p q : ℕ) (hp : p < 4) (hq : q < 8) (off : Fin 2 → ℕ)
    (inb : ∀ a, off a + S128x128.size a ≤ S512x1024.size a) (h : off = ![128 * p, 128 * q]) (off' : Fin 4 → ℕ)
    (inb' : ∀ a, off' a + S1x1x8x128.size a ≤ S4x8x8x128.size a) (h' : off' = ![p, q, 0, 0]) (z : S1x1x8x128.Idx) :
    scaleB (View.readAt (Elt F) m2.view (Rect.unit (s := S512x1024) off S128x128.size inb).toLoadRect (h2.unread x))
      (View.readAt (Elt F) m3.view (Rect.unit (s := S512x1024) off S128x128.size inb).toLoadRect (h3.unread g)) z
      = tScale x g ((Rect.unit (s := S4x8x8x128) off' S1x1x8x128.size inb').emb z) := by
  rw [ld_blk m2 h2 x p q hp hq off inb h, ld_blk m3 h3 g p q hp hq off inb h]
  exact scale_piece x g p q off' inb' h' z

/-- Likewise of the accumulator. -/
theorem acc_box (m : Memref sig .tc .vmem S8x1024 .f32) (G : BufTy.Contents (Elt F) m.view.ty) (p q : ℕ) (hp : p < 4) (hq : q < 8)
    (off : Fin 2 → ℕ) (inb : ∀ a, off a + S128x128.size a ≤ S512x1024.size a) (h : off = ![128 * p, 128 * q]) (off' : Fin 2 → ℕ)
    (inb' : ∀ a, off' a + S8x128.size a ≤ S8x1024.size a) (h' : off' = ![0, 128 * q]) (z : S8x128.Idx) :
    accB (View.readAt (Elt F) m2.view (Rect.unit (s := S512x1024) off S128x128.size inb).toLoadRect (h2.unread x))
      (View.readAt (Elt F) m3.view (Rect.unit (s := S512x1024) off S128x128.size inb).toLoadRect (h3.unread g))
      (View.readAt (Elt F) m.view (Rect.unit (s := S8x1024) off' S8x128.size inb').toLoadRect G) z
      = tAcc x g p (m.view.read (Elt F) G) ((Rect.unit (s := S8x1024) off' S8x128.size inb').emb z) := by
  rw [ld_blk m2 h2 x p q hp hq off inb h, ld_blk m3 h3 g p q hp hq off inb h]
  exact acc_piece x g m G p q hq off' inb' h' z

theorem t1_lt (k : Fin k0_t1_loop.trips) : k.val < 8 := Nat.lt_of_lt_of_le k.isLt k0_t1_abs.2.1
theorem t2_lt (k : Fin k0_t2_loop.trips) : k.val < 8 := Nat.lt_of_lt_of_le k.isLt k0_t2_abs.2.1
theorem t3_lt (k : Fin k0_t3_loop.trips) : k.val < 8 := Nat.lt_of_lt_of_le k.isLt k0_t3_abs.2.1
theorem t4_lt (k : Fin k0_t4_loop.trips) : k.val < 8 := Nat.lt_of_lt_of_le k.isLt k0_t4_abs.2.1

/-- All the pieces of the codes that the four loops store, the last first, are boxes of the tile's codes. -/
theorem codes_pieces (T1 T2 T3 T4 : ℕ) (pc : View.Piece (Elt F) S512x1024 .fp8e5m2)
    (hpc : pc ∈ upto (p5_k0_t4 m2 m3 (h2.unread x) (h3.unread g)) T4 ++ (upto (p5_k0_t3 m2 m3 (h2.unread x) (h3.unread g)) T3
      ++ (upto (p5_k0_t2 m2 m3 (h2.unread x) (h3.unread g)) T2 ++ upto (p5_k0_t1 m2 m3 (h2.unread x) (h3.unread g)) T1))) :
    ∀ z : pc.1.shape.Idx, pc.2 z = tCodes x g (pc.1.emb z) := by
  simp only [List.mem_append] at hpc
  rcases hpc with h | h | h | h <;> obtain ⟨k, -, rfl⟩ := mem_upto _ _ _ h
  · exact fun z => codes_box m2 h2 m3 h3 x g 3 k (by norm_num) (t4_lt k) _ (k0_off13_inb k) (k0_off13_eq k) z
  · exact fun z => codes_box m2 h2 m3 h3 x g 2 k (by norm_num) (t3_lt k) _ (k0_off9_inb k) (k0_off9_eq k) z
  · exact fun z => codes_box m2 h2 m3 h3 x g 1 k (by norm_num) (t2_lt k) _ (k0_off5_inb k) (k0_off5_eq k) z
  · exact fun z => codes_box m2 h2 m3 h3 x g 0 k (by norm_num) (t1_lt k) _ (k0_off1_inb k) (k0_off1_eq k) z

theorem codesT_pieces (T1 T2 T3 T4 : ℕ) (pc : View.Piece (Elt F) S1024x512 .fp8e5m2)
    (hpc : pc ∈ upto (p6_k0_t4 m2 m3 (h2.unread x) (h3.unread g)) T4 ++ (upto (p6_k0_t3 m2 m3 (h2.unread x) (h3.unread g)) T3
      ++ (upto (p6_k0_t2 m2 m3 (h2.unread x) (h3.unread g)) T2 ++ upto (p6_k0_t1 m2 m3 (h2.unread x) (h3.unread g)) T1))) :
    ∀ z : pc.1.shape.Idx, pc.2 z = tCodesT x g (pc.1.emb z) := by
  simp only [List.mem_append] at hpc
  rcases hpc with h | h | h | h <;> obtain ⟨k, -, rfl⟩ := mem_upto _ _ _ h
  · exact fun z => codesT_box m2 h2 m3 h3 x g 3 k (by norm_num) (t4_lt k) _ (k0_off13_inb k) (k0_off13_eq k) _ (k0_off15_inb k) (k0_off15_eq k) z
  · exact fun z => codesT_box m2 h2 m3 h3 x g 2 k (by norm_num) (t3_lt k) _ (k0_off9_inb k) (k0_off9_eq k) _ (k0_off11_inb k) (k0_off11_eq k) z
  · exact fun z => codesT_box m2 h2 m3 h3 x g 1 k (by norm_num) (t2_lt k) _ (k0_off5_inb k) (k0_off5_eq k) _ (k0_off7_inb k) (k0_off7_eq k) z
  · exact fun z => codesT_box m2 h2 m3 h3 x g 0 k (by norm_num) (t1_lt k) _ (k0_off1_inb k) (k0_off1_eq k) _ (k0_off3_inb k) (k0_off3_eq k) z

theorem scale_pieces (T1 T2 T3 T4 : ℕ) (pc : View.Piece (Elt F) S4x8x8x128 .f32)
    (hpc : pc ∈ upto (p7_k0_t4 m2 m3 (h2.unread x) (h3.unread g)) T4 ++ (upto (p7_k0_t3 m2 m3 (h2.unread x) (h3.unread g)) T3
      ++ (upto (p7_k0_t2 m2 m3 (h2.unread x) (h3.unread g)) T2 ++ upto (p7_k0_t1 m2 m3 (h2.unread x) (h3.unread g)) T1))) :
    ∀ z : pc.1.shape.Idx, pc.2 z = tScale x g (pc.1.emb z) := by
  simp only [List.mem_append] at hpc
  rcases hpc with h | h | h | h <;> obtain ⟨k, -, rfl⟩ := mem_upto _ _ _ h
  · exact fun z => scale_box m2 h2 m3 h3 x g 3 k (by norm_num) (t4_lt k) _ (k0_off13_inb k) (k0_off13_eq k) _ (k0_off16_inb k) (k0_off16_eq k) z
  · exact fun z => scale_box m2 h2 m3 h3 x g 2 k (by norm_num) (t3_lt k) _ (k0_off9_inb k) (k0_off9_eq k) _ (k0_off12_inb k) (k0_off12_eq k) z
  · exact fun z => scale_box m2 h2 m3 h3 x g 1 k (by norm_num) (t2_lt k) _ (k0_off5_inb k) (k0_off5_eq k) _ (k0_off8_inb k) (k0_off8_eq k) z
  · exact fun z => scale_box m2 h2 m3 h3 x g 0 k (by norm_num) (t1_lt k) _ (k0_off1_inb k) (k0_off1_eq k) _ (k0_off4_inb k) (k0_off4_eq k) z

/-- A loop whose trip `k` adds block `(p, k)` to the accumulator's columns `128 k …` leaves the accumulator with row `p` of
    blocks added, through whichever view it is read. -/
theorem acc_loop {κ' : Kind} {sp' : Space} {n : ℕ} (hn : 8 ≤ n) (v : View sig κ' sp' S8x1024 .f32) (f : v.ty.Contents (Elt F)) (p : ℕ)
    (a : Vec F S8x1024 .f32) (P : Fin n → View.Piece (Elt F) S8x1024 .f32)
    (off : Fin n → Fin 2 → ℕ) (inb : ∀ k, ∀ a, off k a + S8x128.size a ≤ S8x1024.size a) (hoff : ∀ k, off k = ![0, 128 * k.val])
    (hr : ∀ k, (P k).1 = Rect.unit (s := S8x1024) (off k) S8x128.size (inb k))
    (hP : ∀ k, ∀ z, (P k).2 z = tAcc x g p a ((P k).1.emb z)) (T : ℕ) (hT : 8 ≤ T) :
    v.read (Elt F) (v.writes (Elt F) f (upto P T)) = tAcc x g p a := by
  funext y
  refine View.read_writes_apply_of_pieces v f _ _ (fun pc hpc => ?_) y ?_
  · obtain ⟨k, -, rfl⟩ := mem_upto _ _ _ hpc
    exact hP k
  · have h1 : (y 1).val < 1024 := (y 1).isLt
    have h0 : (y 0).val < 8 := (y 0).isLt
    have hq : (y 1).val / 128 < 8 := by omega
    refine ⟨P ⟨(y 1).val / 128, hq.trans_le hn⟩, mem_upto_of_lt _ _ _ (hq.trans_le hT), ?_⟩
    rw [hr, Rect.mem_set_unit, hoff]
    intro b
    fin_cases b
    · show 0 ≤ (y 0).val ∧ (y 0).val < 0 + 8; omega
    · show 128 * ((y 1).val / 128) ≤ (y 1).val ∧ (y 1).val < 128 * ((y 1).val / 128) + 128; omega

section
variable {κ' : Kind} {sp' : Space} (v : View sig κ' sp' S8x1024 .f32) (f : v.ty.Contents (Elt F)) (m : Memref sig .tc .vmem S8x1024 .f32)
  (G : BufTy.Contents (Elt F) m.view.ty) (T : ℕ) (hT : 8 ≤ T)
include hT

theorem acc_t1 : v.read (Elt F) (v.writes (Elt F) f (upto (p8_k0_t1 m2 m3 (h2.unread x) (h3.unread g) m G) T))
    = tAcc x g 0 (m.view.read (Elt F) G) :=
  acc_loop x g (by decide) v f 0 _ _ k0_off2 k0_off2_inb k0_off2_eq (fun _ => rfl) (fun k z =>
    acc_box m2 h2 m3 h3 x g m G 0 k (by norm_num) (t1_lt k) _ (k0_off1_inb k) (k0_off1_eq k) _ (k0_off2_inb k) (k0_off2_eq k) z) T hT

theorem acc_t2 : v.read (Elt F) (v.writes (Elt F) f (upto (p8_k0_t2 m2 m3 (h2.unread x) (h3.unread g) m G) T))
    = tAcc x g 1 (m.view.read (Elt F) G) :=
  acc_loop x g (by decide) v f 1 _ _ k0_off6 k0_off6_inb k0_off6_eq (fun _ => rfl) (fun k z =>
    acc_box m2 h2 m3 h3 x g m G 1 k (by norm_num) (t2_lt k) _ (k0_off5_inb k) (k0_off5_eq k) _ (k0_off6_inb k) (k0_off6_eq k) z) T hT

theorem acc_t3 : v.read (Elt F) (v.writes (Elt F) f (upto (p8_k0_t3 m2 m3 (h2.unread x) (h3.unread g) m G) T))
    = tAcc x g 2 (m.view.read (Elt F) G) :=
  acc_loop x g (by decide) v f 2 _ _ k0_off10 k0_off10_inb k0_off10_eq (fun _ => rfl) (fun k z =>
    acc_box m2 h2 m3 h3 x g m G 2 k (by norm_num) (t3_lt k) _ (k0_off9_inb k) (k0_off9_eq k) _ (k0_off10_inb k) (k0_off10_eq k) z) T hT

theorem acc_t4 : v.read (Elt F) (v.writes (Elt F) f (upto (p8_k0_t4 m2 m3 (h2.unread x) (h3.unread g) m G) T))
    = tAcc x g 3 (m.view.read (Elt F) G) :=
  acc_loop x g (by decide) v f 3 _ _ k0_off14 k0_off14_inb k0_off14_eq (fun _ => rfl) (fun k z =>
    acc_box m2 h2 m3 h3 x g m G 3 k (by norm_num) (t4_lt k) _ (k0_off13_inb k) (k0_off13_eq k) _ (k0_off14_inb k) (k0_off14_eq k) z) T hT
end

/-- The accumulator with all of the tile's blocks added. -/
def tAcc4 (a : Vec F S8x1024 .f32) : Vec F S8x1024 .f32 := tAcc x g 3 (tAcc x g 2 (tAcc x g 1 (tAcc x g 0 a)))

end

end Cert.KernelIdeal.Gen

end
-- ==== Proof.KernelIdeal.Point.lean ====
/- What the two cases of the kernel body leave, as functions of the tiles: the body of a channel's first tile starts the
   accumulator from zero, any other goes on from what it finds. -/
module

public import proofs.«01_k».proof.Proof.KernelIdeal.Tile
public import proofs.«01_k».proof.Proof.KernelIdeal.Frame
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic Idealize.ShloMosaic.ValueIdx

variable {F : FTy → Type} [FloatOps F] [Named F]
variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .fp8e5m2) (harg5 : arg5.IsWhole) (arg6 : Memref sig .tc .vmem S1024x512 .fp8e5m2) (harg6 : arg6.IsWhole) (arg7 : Memref sig .tc .vmem S4x8x8x128 .f32) (harg7 : arg7.IsWhole) (arg8 : Memref sig .tc .vmem S8x1024 .f32) (harg8 : arg8.IsWhole)
variable (x0 x1 : Vec F S512x1024 .bf16) (xs : Vec F S8x1024 .f32)

theorem zero2 : (![0, 0] : Fin 2 → ℕ) = fun _ => 0 := by decide

theorem trips8 : 8 ≤ Scf.trips (0#32) (Scalar.addi 0#32 8#32) 1#32 := by decide

/-- The accumulator after loops 2, 3 and 4, from what it held before them. -/
theorem acc_chain {κ' : Kind} {sp' : Space} (v : View sig κ' sp' S8x1024 .f32) (f : v.ty.Contents (Elt F))
    (L : List (View.Piece (Elt F) S8x1024 .f32)) (a : Vec F S8x1024 .f32)
    (hL : arg8.view.read (Elt F) (arg8.view.writes (Elt F) arg8.view.junk L) = a) (T2 T3 T4 : ℕ) (h2 : 8 ≤ T2) (h3 : 8 ≤ T3) (h4 : 8 ≤ T4) :
    let P2 := upto (p8_k0_t2 arg2 arg3 (harg2.unread x0) (harg3.unread x1) arg8 (arg8.view.writes (Elt F) arg8.view.junk L)) T2 ++ L
    let P3 := upto (p8_k0_t3 arg2 arg3 (harg2.unread x0) (harg3.unread x1) arg8 (arg8.view.writes (Elt F) arg8.view.junk P2)) T3 ++ P2
    v.read (Elt F) (v.writes (Elt F) f
      (upto (p8_k0_t4 arg2 arg3 (harg2.unread x0) (harg3.unread x1) arg8 (arg8.view.writes (Elt F) arg8.view.junk P3)) T4 ++ P3))
      = tAcc x0 x1 3 (tAcc x0 x1 2 (tAcc x0 x1 1 a)) := by
  intro P2 P3
  rw [View.writes_append, acc_t4 _ harg2 _ harg3 _ _ _ _ _ _ _ h4]
  refine congrArg _ ?_
  show arg8.view.read (Elt F) (arg8.view.writes (Elt F) arg8.view.junk (_ ++ P2)) = _
  rw [View.writes_append, acc_t3 _ harg2 _ harg3 _ _ _ _ _ _ _ h3]
  refine congrArg _ ?_
  show arg8.view.read (Elt F) (arg8.view.writes (Elt F) arg8.view.junk (_ ++ L)) = _
  rw [View.writes_append, acc_t2 _ harg2 _ harg3 _ _ _ _ _ _ _ h2, hL]

/-- What the accumulator holds after loop 1 of a first tile, -/
theorem accA1 (T : ℕ) (hT : 8 ≤ T) : arg8.view.read (Elt F) (arg8.view.writes (Elt F) arg8.view.junk
    (upto (p8_k0_t1 arg2 arg3 (harg2.unread x0) (harg3.unread x1) arg8 (arg8.view.writes (Elt F) arg8.view.junk
      [⟨Rect.unit ![0, 0] S8x1024.size inb_S8x1024_S8x1024_0_0, k0_pay1⟩])) T
      ++ [⟨Rect.unit ![0, 0] S8x1024.size inb_S8x1024_S8x1024_0_0, k0_pay1⟩])) = tAcc x0 x1 0 k0_pay1 := by
  rw [View.writes_append, acc_t1 _ harg2 _ harg3 _ _ _ _ _ _ _ hT, View.read_writes_junk_eq_canon, View.canon_unit_zero zero2]

/-- and of any other. -/
theorem accB1 (T : ℕ) (hT : 8 ≤ T) : arg8.view.read (Elt F) (arg8.view.writes (Elt F) arg8.view.junk
    (upto (p8_k0_t1 arg2 arg3 (harg2.unread x0) (harg3.unread x1) arg8 (harg8.unread xs)) T)) = tAcc x0 x1 0 xs := by
  rw [acc_t1 _ harg2 _ harg3 _ _ _ _ _ _ _ hT, harg8.read_unread]

section A
variable (h0 : cond0_0 i)

theorem outA_3 : out0_A_3 c i arg2 harg2 arg3 harg3 arg4 harg4 arg5 harg5 arg6 harg6 arg7 harg7 arg8 harg8 h0 x0 x1 = tCodes x0 x1 := by
  funext y
  refine View.read_writes_apply_of_pieces _ _ _ _ (fun pc hpc => ?_) y (cover0_A_3 c i arg2 harg2 arg3 harg3 arg4 harg4 arg5 harg5 arg6 harg6 arg7 harg7 arg8 harg8 h0 x0 x1 y)
  unfold kernelRun0_A at hpc
  dsimp only at hpc
  exact codes_pieces arg2 harg2 arg3 harg3 x0 x1 _ _ _ _ pc hpc

theorem outA_4 : out0_A_4 c i arg2 harg2 arg3 harg3 arg4 harg4 arg5 harg5 arg6 harg6 arg7 harg7 arg8 harg8 h0 x0 x1 = tCodesT x0 x1 := by
  funext y
  refine View.read_writes_apply_of_pieces _ _ _ _ (fun pc hpc => ?_) y (cover0_A_4 c i arg2 harg2 arg3 harg3 arg4 harg4 arg5 harg5 arg6 harg6 arg7 harg7 arg8 harg8 h0 x0 x1 y)
  unfold kernelRun0_A at hpc
  dsimp only at hpc
  exact codesT_pieces arg2 harg2 arg3 harg3 x0 x1 _ _ _ _ pc hpc

theorem outA_5 : out0_A_5 c i arg2 harg2 arg3 harg3 arg4 harg4 arg5 harg5 arg6 harg6 arg7 harg7 arg8 harg8 h0 x0 x1 = tScale x0 x1 := by
  funext y
  refine View.read_writes_apply_of_pieces _ _ _ _ (fun pc hpc => ?_) y (cover0_A_5 c i arg2 harg2 arg3 harg3 arg4 harg4 arg5 harg5 arg6 harg6 arg7 harg7 arg8 harg8 h0 x0 x1 y)
  unfold kernelRun0_A at hpc
  dsimp only at hpc
  exact scale_pieces arg2 harg2 arg3 harg3 x0 x1 _ _ _ _ pc hpc

/-- The accumulator after a channel's first tile. -/
theorem soutA : sout0_A_0 c i arg2 harg2 arg3 harg3 arg4 harg4 arg5 harg5 arg6 harg6 arg7 harg7 arg8 harg8 h0 x0 x1 = tAcc4 x0 x1 k0_pay1 := by
  unfold sout0_A_0 kernelRun0_A tAcc4
  dsimp only
  sl_unfold_words
  exact acc_chain arg2 harg2 arg3 harg3 arg8 x0 x1 _ _ _ _ (accA1 arg2 harg2 arg3 harg3 arg8 x0 x1 _ trips8) _ _ _ trips8 trips8 trips8

/-- The partial sums it stores then. -/
theorem outA_2 : out0_A_2 c i arg2 harg2 arg3 harg3 arg4 harg4 arg5 harg5 arg6 harg6 arg7 harg7 arg8 harg8 h0 x0 x1
    = k0_pay10 (tAcc4 x0 x1 k0_pay1) := by
  unfold out0_A_2 kernelRun0_A tAcc4
  dsimp only
  rw [View.read_writes_junk_eq_canon]
  refine (View.canon_unit_zero (S := S1x1024) zero2 _ _).trans ?_
  sl_unfold_words
  refine congrArg k0_pay10 ?_
  refine (View.ld_unit_zero (S := S8x1024) zero2 _ _).trans ?_
  exact acc_chain arg2 harg2 arg3 harg3 arg8 x0 x1 _ _ _ _ (accA1 arg2 harg2 arg3 harg3 arg8 x0 x1 _ trips8) _ _ _ trips8 trips8 trips8
end A

section B
variable (h0 : ¬ cond0_0 i)

theorem outB_3 : out0_B_3 c i arg2 harg2 arg3 harg3 arg4 harg4 arg5 harg5 arg6 harg6 arg7 harg7 arg8 harg8 h0 x0 x1 xs = tCodes x0 x1 := by
  funext y
  refine View.read_writes_apply_of_pieces _ _ _ _ (fun pc hpc => ?_) y (cover0_B_3 c i arg2 harg2 arg3 harg3 arg4 harg4 arg5 harg5 arg6 harg6 arg7 harg7 arg8 harg8 h0 x0 x1 xs y)
  unfold kernelRun0_B at hpc
  dsimp only at hpc
  exact codes_pieces arg2 harg2 arg3 harg3 x0 x1 _ _ _ _ pc hpc

theorem outB_4 : out0_B_4 c i arg2 harg2 arg3 harg3 arg4 harg4 arg5 harg5 arg6 harg6 arg7 harg7 arg8 harg8 h0 x0 x1 xs = tCodesT x0 x1 := by
  funext y
  refine View.read_writes_apply_of_pieces _ _ _ _ (fun pc hpc => ?_) y (cover0_B_4 c i arg2 harg2 arg3 harg3 arg4 harg4 arg5 harg5 arg6 harg6 arg7 harg7 arg8 harg8 h0 x0 x1 xs y)
  unfold kernelRun0_B at hpc
  dsimp only at hpc
  exact codesT_pieces arg2 harg2 arg3 harg3 x0 x1 _ _ _ _ pc hpc

theorem outB_5 : out0_B_5 c i arg2 harg2 arg3 harg3 arg4 harg4 arg5 harg5 arg6 harg6 arg7 harg7 arg8 harg8 h0 x0 x1 xs = tScale x0 x1 := by
  funext y
  refine View.read_writes_apply_of_pieces _ _ _ _ (fun pc hpc => ?_) y (cover0_B_5 c i arg2 harg2 arg3 harg3 arg4 harg4 arg5 harg5 arg6 harg6 arg7 harg7 arg8 harg8 h0 x0 x1 xs y)
  unfold kernelRun0_B at hpc
  dsimp only at hpc
  exact scale_pieces arg2 harg2 arg3 harg3 x0 x1 _ _ _ _ pc hpc

/-- The accumulator after any other tile. -/
theorem soutB : sout0_B_0 c i arg2 harg2 arg3 harg3 arg4 harg4 arg5 harg5 arg6 harg6 arg7 harg7 arg8 harg8 h0 x0 x1 xs = tAcc4 x0 x1 xs := by
  unfold sout0_B_0 kernelRun0_B tAcc4
  dsimp only
  sl_unfold_words
  exact acc_chain arg2 harg2 arg3 harg3 arg8 x0 x1 _ _ _ _ (accB1 arg2 harg2 arg3 harg3 arg8 harg8 x0 x1 xs _ trips8) _ _ _ trips8 trips8 trips8

/-- The partial sums it stores then. -/
theorem outB_2 : out0_B_2 c i arg2 harg2 arg3 harg3 arg4 harg4 arg5 harg5 arg6 harg6 arg7 harg7 arg8 harg8 h0 x0 x1 xs
    = k0_pay10 (tAcc4 x0 x1 xs) := by
  unfold out0_B_2 kernelRun0_B tAcc4
  dsimp only
  rw [View.read_writes_junk_eq_canon]
  refine (View.canon_unit_zero (S := S1x1024) zero2 _ _).trans ?_
  sl_unfold_words
  refine congrArg k0_pay10 ?_
  refine (View.ld_unit_zero (S := S8x1024) zero2 _ _).trans ?_
  exact acc_chain arg2 harg2 arg3 harg3 arg8 x0 x1 _ _ _ _ (accB1 arg2 harg2 arg3 harg3 arg8 harg8 x0 x1 xs _ trips8) _ _ _ trips8 trips8 trips8
end B

end Cert.KernelIdeal.Gen

end
-- ==== Proof.KernelIdeal.Value.lean ====
/- The arrays the program ends with, as the fold of the points' outputs. The text is the generated value module's, over the frame whose
   loops are stated in closed form. -/
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`: its component 0), read through the window's block. -/
theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- … so at a point where case A runs, what its write-back would write is that case's NAMED TERM for the window (`Gen.out0_A_2`: the pieces
    its run found, read back) at the point's memrefs and input blocks, and for an output the case reads back what the point before left (`Gen.outsAt0` at `t - 1`) — by the frame's rewriting lemma for the case. -/
theorem flushed2_A (c : Dev nD) (t : Fin cfg0.N) (h0 : t.val % 50 = 0) :
    (dats m 0 c).flushed 2 t = (cfg0.win 2).cut (grid0.coords t) (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t)) := by
  simp only [flushed2, outsAt0_A m c t h0]

/-- … so at a point where case B runs, what its write-back would write is that case's NAMED TERM for the window (`Gen.out0_B_2`: the pieces
    its run found, read back) at the point's memrefs and input blocks, and for an output the case reads back what the point before left (`Gen.outsAt0` at `t - 1`) — by the frame's rewriting lemma for the case. -/
theorem flushed2_B (c : Dev nD) (t : Fin cfg0.N) (h0 : ¬t.val % 50 = 0) :
    (dats m 0 c).flushed 2 t = (cfg0.win 2).cut (grid0.coords t) (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2.2.2) := by
  simp only [flushed2, outsAt0_B m c t h0]

-- no `blocks2`: window 2's index map revisits a block index, or its points could not be enumerated here;
-- the final array is still the frame's `arrAt`, to read with Lib/Pipeline/Value.lean's lemmas by hand

/-- An index that no flushing point's block covers keeps output window 2's array contents at region entry. -/
theorem entry2 (c : Dev nD) (i : S1x5120.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the run's contents for that window after the body (`Gen.outsAt0`: its component 1), read through the window's block. -/
theorem flushed3 (c : Dev nD) (t : Fin cfg0.N) :
    (dats m 0 c).flushed 3 t = (cfg0.win 3).cut (grid0.coords t) ((outsAt0 m c t.val t.isLt).2.1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 50 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t)) := by
  simp only [flushed3, outsAt0_A m c t h0]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 50 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2.2.2) := by
  simp only [flushed3, outsAt0_B m c t h0]

-- no `blocks3`: window 3's index map is injective over its 250 points, but past 200 points that is decided here only for a window whose block index on one axis is the point's position;
-- the final array is still the frame's `arrAt`, to read with Lib/Pipeline/Value.lean's lemmas by hand

/-- An index that no flushing point's block covers keeps output window 3's array contents at region entry. -/
theorem entry3 (c : Dev nD) (i : S25600x5120.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 2), read through the window's block. -/
theorem flushed4 (c : Dev nD) (t : Fin cfg0.N) :
    (dats m 0 c).flushed 4 t = (cfg0.win 4).cut (grid0.coords t) ((outsAt0 m c t.val t.isLt).2.2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 50 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t)) := by
  simp only [flushed4, outsAt0_A m c t h0]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 50 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2.2.2) := by
  simp only [flushed4, outsAt0_B m c t h0]

-- no `blocks4`: window 4's index map is injective over its 250 points, but past 200 points that is decided here only for a window whose block index on one axis is the point's position;
-- the final array is still the frame's `arrAt`, to read with Lib/Pipeline/Value.lean's lemmas by hand

/-- An index that no flushing point's block covers keeps output window 4's array contents at region entry. -/
theorem entry4 (c : Dev nD) (i : S5120x25600.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 3), read through the window's block. -/
theorem flushed5 (c : Dev nD) (t : Fin cfg0.N) :
    (dats m 0 c).flushed 5 t = (cfg0.win 5).cut (grid0.coords t) ((outsAt0 m c t.val t.isLt).2.2.2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 50 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 50 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (outsAt0 m c (t.val - 1) (Nat.lt_of_le_of_lt (Nat.sub_le _ _) t.isLt)).2.2.2.2) := by
  simp only [flushed5, outsAt0_B m c t h0]

-- no `blocks5`: window 5's index map is injective over its 250 points, but past 200 points that is decided here only for a window whose block index on one axis is the point's position;
-- the final array is still the frame's `arrAt`, to read with Lib/Pipeline/Value.lean's lemmas by hand

/-- An index that no flushing point's block covers keeps output window 5's array contents at region entry. -/
theorem entry5 (c : Dev nD) (i : S200x40x8x128.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_3) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_v0_3) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      post5 m r h c,
      kept_main_arg0 m r h c,
      kept_main_arg1 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 50)
    stores the scratch whole without reading what it held, and `acc` does not enter there (nor where no point meets the
    conditions: `acc`, never read). -/
def scAt0_0 (c : Dev nD) (n : ℕ) (hb : n < cfg0.N) (acc : Vec F S8x1024 .f32) : Vec F S8x1024 .f32 :=
  if h0 : n % 50 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc

/-- WHAT CARRIED SCRATCH 0 HOLDS after point `t`: the fold of its run up to `t`, from the reset at the run's first point
    `50·(t / 50)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2 = Pipeline.accAt (fun n h => scAt0_0 m c n h (VS0_0.read (Elt F) VS0_0.junk)) (scAt0_0 m c) (50 * (t.val / 50)) (t.val % 50)
      (by have h1 := t.isLt; have h2 := Nat.div_add_mod t.val 50; omega) :=
  Pipeline.eq_accAt_of_mod (fun n h => (outsAt0 m c n h).2.2.2.2) 50 (fun n h => scAt0_0 m c n h (VS0_0.read (Elt F) VS0_0.junk)) (scAt0_0 m c)
    (fun n h hn => by
      have hN := lt_of_lt_of_eq h (show cfg0.N = 250 from N_0)
      by_cases h0 : n % 50 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 250 from N_0)
      by_cases h0 : (n + 1) % 50 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x1024 .f32 × Vec F S512x1024 .fp8e5m2 × Vec F S1024x512 .fp8e5m2 × Vec F S4x8x8x128 .f32 × Vec F S8x1024 .f32 :=
  ((VO0_2.read (Elt F) VO0_2.junk, VO0_3.read (Elt F) VO0_3.junk, VO0_4.read (Elt F) VO0_4.junk, VO0_5.read (Elt F) VO0_5.junk, VS0_0.read (Elt F) VS0_0.junk) : Vec F S1x1024 .f32 × Vec F S512x1024 .fp8e5m2 × Vec F S1024x512 .fp8e5m2 × Vec F S4x8x8x128 .f32 × Vec F S8x1024 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x1024 .f32 × Vec F S512x1024 .fp8e5m2 × Vec F S1024x512 .fp8e5m2 × Vec F S4x8x8x128 .f32 × Vec F S8x1024 .f32) : Vec F S1x1024 .f32 × Vec F S512x1024 .fp8e5m2 × Vec F S1024x512 .fp8e5m2 × Vec F S4x8x8x128 .f32 × Vec F S8x1024 .f32 :=
  if h0 : n % 50 = 0 then
    (out0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)), out0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)), out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)), out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)))
  else
    (out0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.2.2.2, out0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.2.2.2, out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.2.2.2, out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2.2.2.2)

/-- `stAt0` at a point of case A: that case's contents. -/
theorem stAt0_A (c : Dev nD) (t : Fin cfg0.N) (acc : Vec F S1x1024 .f32 × Vec F S512x1024 .fp8e5m2 × Vec F S1024x512 .fp8e5m2 × Vec F S4x8x8x128 .f32 × Vec F S8x1024 .f32) (h0 : t.val % 50 = 0) :
    stAt0 m c t.val t.isLt acc = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t)) :=
  (dif_pos h0).trans rfl

/-- `stAt0` at a point of case B: that case's contents, over `acc`. -/
theorem stAt0_B (c : Dev nD) (t : Fin cfg0.N) (acc : Vec F S1x1024 .f32 × Vec F S512x1024 .fp8e5m2 × Vec F S1024x512 .fp8e5m2 × Vec F S4x8x8x128 .f32 × Vec F S8x1024 .f32) (h0 : ¬t.val % 50 = 0) :
    stAt0 m c t.val t.isLt acc = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) acc.2.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) acc.2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) acc.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) acc.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) acc.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 250 from N_0)
  have e := Pipeline.eq_accAt_of_mod (fun n h => outsAt0 m c n h) 250 (fun n h => stAt0 m c n h junk0) (stAt0 m c)
    (fun n h _ => by
      have hN := lt_of_lt_of_eq h (show cfg0.N = 250 from N_0)
      obtain rfl : n = 0 := by omega
      exact outsAt0_zero m c h)
    (fun n h _ => outsAt0_succ m c n h)
    (by decide) n hn (by have := Nat.div_add_mod n 250; omega)
  have hd : n / 250 = 0 := Nat.div_eq_of_lt hN
  have hm : n % 250 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 2 -/

/-- The block of the array that holds index `i`, numbered in the order the points write the blocks back (one every 50 points),
    `i`'s place in it, and the point that writes it back (the last of its 50). -/
abbrev run2Of (i : S1x5120.Idx) : ℕ := 5 * ((i 0).val / 1 - 0) + 1 * ((i 1).val / 1024 - 0)
set_option backward.proofsInPublic true in
abbrev loc2Of (i : S1x5120.Idx) : S1x1024.Idx := fun a => match a with
  | ⟨0, _⟩ => ⟨(i 0).val % 1, Nat.mod_lt _ (by decide)⟩
  | ⟨1, _⟩ => ⟨(i 1).val % 1024, Nat.mod_lt _ (by decide)⟩
abbrev pt2Of (i : S1x5120.Idx) : ℕ := 50 * run2Of i + 49

/-- WHAT THE ARRAY ENDS HOLDING at index `i` inside the box the flushing blocks fill: output 2's component of the carried
    state's fold at the point that writes `i`'s block back, at `i`'s place in the block. `G2` states the array's contents
    only inside the box. -/
def G2 (c : Dev nD) : Buf (Elt F) ((c : Thread nD τ).loc main_v0_0) := fun i =>
  if h : pt2Of i < cfg0.N then
    (Pipeline.accAt (fun n h => stAt0 m c n h junk0) (stAt0 m c) 0 (pt2Of i) (by omega)).1 (loc2Of i)
  else V m c (Pipeline.arrRef spec0 2) i

/-- The printed index map, decided over the grid: output window 2's block indices stay in the box, and the block number
    read off them is the point's (`t / 50`). -/
theorem idx_facts2 : ∀ t : Fin cfg0.N, 0 ≤ win0_2.index t (0 : Fin 2) ∧ win0_2.index t (0 : Fin 2) ≤ 0
    ∧ 0 ≤ win0_2.index t (1 : Fin 2) ∧ win0_2.index t (1 : Fin 2) ≤ 4
    ∧ 5 * (win0_2.index t (0 : Fin 2) - 0) + 1 * (win0_2.index t (1 : Fin 2) - 0) = t.val / 50 :=
  (by decide +kernel : ∀ t : Fin grid0.N, _)

/-- Every block of the box is SOME flushing point's: `onto2Pt`, the point that writes back the block at place `q` of the box (the last point of its run). -/
abbrev onto2Pt (q0 : Fin 1) (q1 : Fin 5) : Fin grid0.N :=
  ⟨50 * (5 * q0.val + 1 * q1.val) + 49, lt_of_lt_of_eq (by omega) N_0.symm⟩
theorem idx_onto2 : ∀ (q0 : Fin 1) (q1 : Fin 5), ∃ t : Fin cfg0.N, (cfg0.win 2).flush t = true ∧ win0_2.index t = ![q0.val + 0, q1.val + 0] :=
  fun q0 q1 => ⟨onto2Pt q0 q1, (by decide +kernel : ∀ (q0 : Fin 1) (q1 : Fin 5), win0_2.flush (onto2Pt q0 q1) = true ∧ win0_2.index (onto2Pt q0 q1) = ![q0.val + 0, q1.val + 0]) q0 q1⟩

/-- WHAT A FLUSHING POINT `t` WRITES BACK is block `t` of `G2`: output 2's component of the fold up to `t`. -/
theorem flushed2_eq (c : Dev nD) (t : Fin cfg0.N) (hf : (cfg0.win 2).flush t = true) :
    (dats m 0 c).flushed 2 t = ((cfg0.win 2).blk t).view.read (Elt F) (G2 m c) := by
  show (cfg0.win 2).cut (grid0.coords t) ((dats m 0 c).after 2 t) = _
  rw [after0_2, outsAt0_sweep]
  have hm : t.val % 50 = 49 := (flush0_2 t).mp hf
  obtain ⟨e0, e1, e2⟩ := idx_facts2 t
  funext y
  have hy0 : (y 0).val < 1 := (y 0).isLt
  have hy1 : (y 1).val < 1024 := (y 1).isLt
  have hb0 : (((cfg0.win 2).blk t).view.emb y 0).val = win0_2.index t (0 : Fin 2) * 1 + 1 * (y 0).val := rfl
  have hb1 : (((cfg0.win 2).blk t).view.emb y 1).val = win0_2.index t (1 : Fin 2) * 1024 + 1 * (y 1).val := rfl
  have hr : run2Of (((cfg0.win 2).blk t).view.emb y) = t.val / 50 := by
    show 5 * ((((cfg0.win 2).blk t).view.emb y 0).val / 1 - 0) + 1 * ((((cfg0.win 2).blk t).view.emb y 1).val / 1024 - 0) = _
    rw [hb0, hb1]
    rw [show (win0_2.index t (0 : Fin 2) * 1 + 1 * (y 0).val) / 1 = win0_2.index t (0 : Fin 2) from by omega]; rw [show (win0_2.index t (1 : Fin 2) * 1024 + 1 * (y 1).val) / 1024 = win0_2.index t (1 : Fin 2) from by omega]
    omega
  have hl : loc2Of (((cfg0.win 2).blk t).view.emb y) = (cfg0.win 2).xinj (grid0.coords t) y := by
    funext a; apply Fin.ext
    match a with
    | ⟨0, _⟩ => show (((cfg0.win 2).blk t).view.emb y 0).val % 1 = (y 0).val; rw [hb0]; omega
    | ⟨1, _⟩ => show (((cfg0.win 2).blk t).view.emb y 1).val % 1024 = (y 1).val; rw [hb1]; omega
  have hp : pt2Of (((cfg0.win 2).blk t).view.emb y) = t.val := by
    show 50 * run2Of (((cfg0.win 2).blk t).view.emb y) + 49 = _
    rw [hr]; have := Nat.div_add_mod t.val 50; omega
  show (Pipeline.accAt (fun n h => stAt0 m c n h junk0) (stAt0 m c) 0 t.val _).1 ((cfg0.win 2).xinj (grid0.coords t) y) = G2 m c (((cfg0.win 2).blk t).view.emb y)
  unfold G2
  rw [dif_pos (by rw [hp]; exact t.isLt), hl, fold0_congr m c _ _ _ _ hp.symm]

/-- An index of the array is in point `t`'s block iff each coordinate is in the block's range on its axis. -/
theorem mem_blk2 (t : Fin cfg0.N) (i : S1x5120.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v0_0).slice (win0_2.rect t)).set ↔ _
  rw [View.set_slice_whole, Rect.mem_set_unit]
  exact Iff.rfl

/-- THE COVERED INDICES: in some flushing point's block iff inside the box those blocks fill. -/
theorem covered_iff2 (i : S1x5120.Idx) :
    (∃ t : Fin cfg0.N, (cfg0.win 2).flush t = true ∧ i ∈ ((cfg0.win 2).blk t).view.set) ↔ 0 ≤ (i 0).val ∧ (i 0).val < 1 ∧ 0 ≤ (i 1).val ∧ (i 1).val < 5120 := by
  constructor
  · rintro ⟨t, -, hi⟩
    rw [mem_blk2] at hi
    have b0 : win0_2.index t (0 : Fin 2) * 1 ≤ (i 0).val ∧ (i 0).val < win0_2.index t (0 : Fin 2) * 1 + 1 := hi 0
    have b1 : win0_2.index t (1 : Fin 2) * 1024 ≤ (i 1).val ∧ (i 1).val < win0_2.index t (1 : Fin 2) * 1024 + 1024 := hi 1
    obtain ⟨e0, e1, e2⟩ := idx_facts2 t
    omega
  · intro h
    have hi0 : (i 0).val < 1 := (i 0).isLt
    have hi1 : (i 1).val < 5120 := (i 1).isLt
    obtain ⟨t, hft, ht⟩ := idx_onto2 ⟨(i 0).val / 1 - 0, by omega⟩ ⟨(i 1).val / 1024 - 0, by omega⟩
    have q0 : win0_2.index t (0 : Fin 2) = (i 0).val / 1 - 0 + 0 := congrFun ht 0
    have q1 : win0_2.index t (1 : Fin 2) = (i 1).val / 1024 - 0 + 0 := congrFun ht 1
    refine ⟨t, hft, ?_⟩
    rw [mem_blk2]
    intro a
    match a with
    | ⟨0, _⟩ => show win0_2.index t (0 : Fin 2) * 1 ≤ (i 0).val ∧ (i 0).val < win0_2.index t (0 : Fin 2) * 1 + 1; omega
    | ⟨1, _⟩ => show win0_2.index t (1 : Fin 2) * 1024 ≤ (i 1).val ∧ (i 1).val < win0_2.index t (1 : Fin 2) * 1024 + 1024; omega

/-- THE ARRAY after the run: `G2` (the flushing blocks tile it). -/
theorem final2 (c : Dev nD) : (dats m 0 c).arrAt 2 cfg0.N = G2 m c :=
  (dats m 0 c).arrAt_eq_of_cover 2 _ (fun t hf => flushed2_eq m c t hf) (fun i => (covered_iff2 i).2 (by
    have h0 : (i 0).val < 1 := (i 0).isLt; have h1 : (i 1).val < 5120 := (i 1).isLt; omega))

/-! ## Output window 3 -/

/-- The block of the array that holds index `i`, numbered in the order the points write the blocks back (one per point),
    `i`'s place in it, and the point that writes it back. -/
abbrev run3Of (i : S25600x5120.Idx) : ℕ := 1 * ((i 0).val / 512 - 0) + 50 * ((i 1).val / 1024 - 0)
set_option backward.proofsInPublic true in
abbrev loc3Of (i : S25600x5120.Idx) : S512x1024.Idx := fun a => match a with
  | ⟨0, _⟩ => ⟨(i 0).val % 512, Nat.mod_lt _ (by decide)⟩
  | ⟨1, _⟩ => ⟨(i 1).val % 1024, Nat.mod_lt _ (by decide)⟩
abbrev pt3Of (i : S25600x5120.Idx) : ℕ := run3Of i

/-- WHAT THE ARRAY ENDS HOLDING at index `i` inside the box the flushing blocks fill: output 3's component of the carried
    state's fold at the point that writes `i`'s block back, at `i`'s place in the block. `G3` states the array's contents
    only inside the box. -/
def G3 (c : Dev nD) : Buf (Elt F) ((c : Thread nD τ).loc main_v0_1) := fun i =>
  if h : pt3Of i < cfg0.N then
    (Pipeline.accAt (fun n h => stAt0 m c n h junk0) (stAt0 m c) 0 (pt3Of i) (by omega)).2.1 (loc3Of i)
  else V m c (Pipeline.arrRef spec0 3) i

/-- The printed index map, decided over the grid: output window 3's block indices stay in the box, and the block number
    read off them is the point's (`t`). -/
theorem idx_facts3 : ∀ t : Fin cfg0.N, 0 ≤ win0_3.index t (0 : Fin 2) ∧ win0_3.index t (0 : Fin 2) ≤ 49
    ∧ 0 ≤ win0_3.index t (1 : Fin 2) ∧ win0_3.index t (1 : Fin 2) ≤ 4
    ∧ 1 * (win0_3.index t (0 : Fin 2) - 0) + 50 * (win0_3.index t (1 : Fin 2) - 0) = t.val :=
  (by decide +kernel : ∀ t : Fin grid0.N, _)

/-- Every block of the box is SOME flushing point's: `onto3Pt`, the point that writes back the block at place `q` of the box. -/
abbrev onto3Pt (q0 : Fin 50) (q1 : Fin 5) : Fin grid0.N :=
  ⟨1 * q0.val + 50 * q1.val, lt_of_lt_of_eq (by omega) N_0.symm⟩
theorem idx_onto3 : ∀ (q0 : Fin 50) (q1 : Fin 5), ∃ t : Fin cfg0.N, (cfg0.win 3).flush t = true ∧ win0_3.index t = ![q0.val + 0, q1.val + 0] :=
  fun q0 q1 => ⟨onto3Pt q0 q1, (by decide +kernel : ∀ (q0 : Fin 50) (q1 : Fin 5), win0_3.flush (onto3Pt q0 q1) = true ∧ win0_3.index (onto3Pt q0 q1) = ![q0.val + 0, q1.val + 0]) q0 q1⟩

/-- WHAT A FLUSHING POINT `t` WRITES BACK is block `t` of `G3`: output 3's component of the fold up to `t`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3, outsAt0_sweep]
  obtain ⟨e0, e1, e2⟩ := idx_facts3 t
  funext y
  have hy0 : (y 0).val < 512 := (y 0).isLt
  have hy1 : (y 1).val < 1024 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 1024 + 1 * (y 1).val := rfl
  have hr : run3Of (((cfg0.win 3).blk t).view.emb y) = t.val := by
    show 1 * ((((cfg0.win 3).blk t).view.emb y 0).val / 512 - 0) + 50 * ((((cfg0.win 3).blk t).view.emb y 1).val / 1024 - 0) = _
    rw [hb0, hb1]
    rw [show (win0_3.index t (0 : Fin 2) * 512 + 1 * (y 0).val) / 512 = win0_3.index t (0 : Fin 2) from by omega]; rw [show (win0_3.index t (1 : Fin 2) * 1024 + 1 * (y 1).val) / 1024 = win0_3.index t (1 : Fin 2) from by omega]
    omega
  have hl : loc3Of (((cfg0.win 3).blk t).view.emb y) = (cfg0.win 3).xinj (grid0.coords t) y := by
    funext a; apply Fin.ext
    match a with
    | ⟨0, _⟩ => show (((cfg0.win 3).blk t).view.emb y 0).val % 512 = (y 0).val; rw [hb0]; omega
    | ⟨1, _⟩ => show (((cfg0.win 3).blk t).view.emb y 1).val % 1024 = (y 1).val; rw [hb1]; omega
  have hp : pt3Of (((cfg0.win 3).blk t).view.emb y) = t.val := by
    exact hr
  show (Pipeline.accAt (fun n h => stAt0 m c n h junk0) (stAt0 m c) 0 t.val _).2.1 ((cfg0.win 3).xinj (grid0.coords t) y) = G3 m c (((cfg0.win 3).blk t).view.emb y)
  unfold G3
  rw [dif_pos (by rw [hp]; exact t.isLt), hl, fold0_congr m c _ _ _ _ hp.symm]

/-- An index of the array is in point `t`'s block iff each coordinate is in the block's range on its axis. -/
theorem mem_blk3 (t : Fin cfg0.N) (i : S25600x5120.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0_1).slice (win0_3.rect t)).set ↔ _
  rw [View.set_slice_whole, Rect.mem_set_unit]
  exact Iff.rfl

/-- THE COVERED INDICES: in some flushing point's block iff inside the box those blocks fill. -/
theorem covered_iff3 (i : S25600x5120.Idx) :
    (∃ t : Fin cfg0.N, (cfg0.win 3).flush t = true ∧ i ∈ ((cfg0.win 3).blk t).view.set) ↔ 0 ≤ (i 0).val ∧ (i 0).val < 25600 ∧ 0 ≤ (i 1).val ∧ (i 1).val < 5120 := by
  constructor
  · rintro ⟨t, -, hi⟩
    rw [mem_blk3] at hi
    have b0 : win0_3.index t (0 : Fin 2) * 512 ≤ (i 0).val ∧ (i 0).val < win0_3.index t (0 : Fin 2) * 512 + 512 := hi 0
    have b1 : win0_3.index t (1 : Fin 2) * 1024 ≤ (i 1).val ∧ (i 1).val < win0_3.index t (1 : Fin 2) * 1024 + 1024 := hi 1
    obtain ⟨e0, e1, e2⟩ := idx_facts3 t
    omega
  · intro h
    have hi0 : (i 0).val < 25600 := (i 0).isLt
    have hi1 : (i 1).val < 5120 := (i 1).isLt
    obtain ⟨t, hft, ht⟩ := idx_onto3 ⟨(i 0).val / 512 - 0, by omega⟩ ⟨(i 1).val / 1024 - 0, by omega⟩
    have q0 : win0_3.index t (0 : Fin 2) = (i 0).val / 512 - 0 + 0 := congrFun ht 0
    have q1 : win0_3.index t (1 : Fin 2) = (i 1).val / 1024 - 0 + 0 := congrFun ht 1
    refine ⟨t, hft, ?_⟩
    rw [mem_blk3]
    intro a
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 1024 ≤ (i 1).val ∧ (i 1).val < win0_3.index t (1 : Fin 2) * 1024 + 1024; omega

/-- THE ARRAY after the run: `G3` (the flushing blocks tile it). -/
theorem final3 (c : Dev nD) : (dats m 0 c).arrAt 3 cfg0.N = G3 m c :=
  (dats m 0 c).arrAt_eq_of_cover 3 _ (fun t hf => flushed3_eq m c t hf) (fun i => (covered_iff3 i).2 (by
    have h0 : (i 0).val < 25600 := (i 0).isLt; have h1 : (i 1).val < 5120 := (i 1).isLt; omega))

/-! ## Output window 4 -/

/-- The block of the array that holds index `i`, numbered in the order the points write the blocks back (one per point),
    `i`'s place in it, and the point that writes it back. -/
abbrev run4Of (i : S5120x25600.Idx) : ℕ := 50 * ((i 0).val / 1024 - 0) + 1 * ((i 1).val / 512 - 0)
set_option backward.proofsInPublic true in
abbrev loc4Of (i : S5120x25600.Idx) : S1024x512.Idx := fun a => match a with
  | ⟨0, _⟩ => ⟨(i 0).val % 1024, Nat.mod_lt _ (by decide)⟩
  | ⟨1, _⟩ => ⟨(i 1).val % 512, Nat.mod_lt _ (by decide)⟩
abbrev pt4Of (i : S5120x25600.Idx) : ℕ := run4Of i

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v0_2) := fun i =>
  if h : pt4Of i < cfg0.N then
    (Pipeline.accAt (fun n h => stAt0 m c n h junk0) (stAt0 m c) 0 (pt4Of i) (by omega)).2.2.1 (loc4Of i)
  else V m c (Pipeline.arrRef spec0 4) i

/-- The printed index map, decided over the grid: output window 4's block indices stay in the box, and the block number
    read off them is the point's (`t`). -/
theorem idx_facts4 : ∀ t : Fin cfg0.N, 0 ≤ win0_4.index t (0 : Fin 2) ∧ win0_4.index t (0 : Fin 2) ≤ 4
    ∧ 0 ≤ win0_4.index t (1 : Fin 2) ∧ win0_4.index t (1 : Fin 2) ≤ 49
    ∧ 50 * (win0_4.index t (0 : Fin 2) - 0) + 1 * (win0_4.index t (1 : Fin 2) - 0) = t.val :=
  (by decide +kernel : ∀ t : Fin grid0.N, _)

/-- Every block of the box is SOME flushing point's: `onto4Pt`, the point that writes back the block at place `q` of the box. -/
abbrev onto4Pt (q0 : Fin 5) (q1 : Fin 50) : Fin grid0.N :=
  ⟨50 * q0.val + 1 * q1.val, lt_of_lt_of_eq (by omega) N_0.symm⟩
theorem idx_onto4 : ∀ (q0 : Fin 5) (q1 : Fin 50), ∃ t : Fin cfg0.N, (cfg0.win 4).flush t = true ∧ win0_4.index t = ![q0.val + 0, q1.val + 0] :=
  fun q0 q1 => ⟨onto4Pt q0 q1, (by decide +kernel : ∀ (q0 : Fin 5) (q1 : Fin 50), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  obtain ⟨e0, e1, e2⟩ := idx_facts4 t
  funext y
  have hy0 : (y 0).val < 1024 := (y 0).isLt
  have hy1 : (y 1).val < 512 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 512 + 1 * (y 1).val := rfl
  have hr : run4Of (((cfg0.win 4).blk t).view.emb y) = t.val := by
    show 50 * ((((cfg0.win 4).blk t).view.emb y 0).val / 1024 - 0) + 1 * ((((cfg0.win 4).blk t).view.emb y 1).val / 512 - 0) = _
    rw [hb0, hb1]
    rw [show (win0_4.index t (0 : Fin 2) * 1024 + 1 * (y 0).val) / 1024 = win0_4.index t (0 : Fin 2) from by omega]; rw [show (win0_4.index t (1 : Fin 2) * 512 + 1 * (y 1).val) / 512 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 1024 = (y 0).val; rw [hb0]; omega
    | ⟨1, _⟩ => show (((cfg0.win 4).blk t).view.emb y 1).val % 512 = (y 1).val; rw [hb1]; omega
  have hp : pt4Of (((cfg0.win 4).blk t).view.emb y) = t.val := by
    exact hr
  show (Pipeline.accAt (fun n h => stAt0 m c n h junk0) (stAt0 m c) 0 t.val _).2.2.1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S5120x25600.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v0_2).slice (win0_4.rect t)).set ↔ _
  rw [View.set_slice_whole, Rect.mem_set_unit]
  exact Iff.rfl

/-- THE COVERED INDICES: in some flushing point's block iff inside the box those blocks fill. -/
theorem covered_iff4 (i : S5120x25600.Idx) :
    (∃ t : Fin cfg0.N, (cfg0.win 4).flush t = true ∧ i ∈ ((cfg0.win 4).blk t).view.set) ↔ 0 ≤ (i 0).val ∧ (i 0).val < 5120 ∧ 0 ≤ (i 1).val ∧ (i 1).val < 25600 := by
  constructor
  · rintro ⟨t, -, hi⟩
    rw [mem_blk4] at hi
    have b0 : win0_4.index t (0 : Fin 2) * 1024 ≤ (i 0).val ∧ (i 0).val < win0_4.index t (0 : Fin 2) * 1024 + 1024 := hi 0
    have b1 : win0_4.index t (1 : Fin 2) * 512 ≤ (i 1).val ∧ (i 1).val < win0_4.index t (1 : Fin 2) * 512 + 512 := hi 1
    obtain ⟨e0, e1, e2⟩ := idx_facts4 t
    omega
  · intro h
    have hi0 : (i 0).val < 5120 := (i 0).isLt
    have hi1 : (i 1).val < 25600 := (i 1).isLt
    obtain ⟨t, hft, ht⟩ := idx_onto4 ⟨(i 0).val / 1024 - 0, by omega⟩ ⟨(i 1).val / 512 - 0, by omega⟩
    have q0 : win0_4.index t (0 : Fin 2) = (i 0).val / 1024 - 0 + 0 := congrFun ht 0
    have q1 : win0_4.index t (1 : Fin 2) = (i 1).val / 512 - 0 + 0 := congrFun ht 1
    refine ⟨t, hft, ?_⟩
    rw [mem_blk4]
    intro a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 512 ≤ (i 1).val ∧ (i 1).val < win0_4.index t (1 : Fin 2) * 512 + 512; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 5120 := (i 0).isLt; have h1 : (i 1).val < 25600 := (i 1).isLt; omega))

/-! ## Output window 5 -/

/-- The block of the array that holds index `i`, numbered in the order the points write the blocks back (one per point),
    `i`'s place in it, and the point that writes it back. -/
abbrev run5Of (i : S200x40x8x128.Idx) : ℕ := 1 * ((i 0).val / 4 - 0) + 50 * ((i 1).val / 8 - 0) + 250 * ((i 2).val / 8 - 0) + 250 * ((i 3).val / 128 - 0)
set_option backward.proofsInPublic true in
abbrev loc5Of (i : S200x40x8x128.Idx) : S4x8x8x128.Idx := fun a => match a with
  | ⟨0, _⟩ => ⟨(i 0).val % 4, Nat.mod_lt _ (by decide)⟩
  | ⟨1, _⟩ => ⟨(i 1).val % 8, Nat.mod_lt _ (by decide)⟩
  | ⟨2, _⟩ => ⟨(i 2).val % 8, Nat.mod_lt _ (by decide)⟩
  | ⟨3, _⟩ => ⟨(i 3).val % 128, Nat.mod_lt _ (by decide)⟩
abbrev pt5Of (i : S200x40x8x128.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v0_3) := fun i =>
  if h : pt5Of i < cfg0.N then
    (Pipeline.accAt (fun n h => stAt0 m c n h junk0) (stAt0 m c) 0 (pt5Of i) (by omega)).2.2.2.1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 4) ∧ win0_5.index t (0 : Fin 4) ≤ 49
    ∧ 0 ≤ win0_5.index t (1 : Fin 4) ∧ win0_5.index t (1 : Fin 4) ≤ 4
    ∧ 0 ≤ win0_5.index t (2 : Fin 4) ∧ win0_5.index t (2 : Fin 4) ≤ 0
    ∧ 0 ≤ win0_5.index t (3 : Fin 4) ∧ win0_5.index t (3 : Fin 4) ≤ 0
    ∧ 1 * (win0_5.index t (0 : Fin 4) - 0) + 50 * (win0_5.index t (1 : Fin 4) - 0) + 250 * (win0_5.index t (2 : Fin 4) - 0) + 250 * (win0_5.index t (3 : Fin 4) - 0) = t.val :=
  (by decide +kernel : ∀ t : Fin grid0.N, _)

/-- Every block of the box is SOME flushing point's: `onto5Pt`, the point that writes back the block at place `q` of the box. -/
abbrev onto5Pt (q0 : Fin 50) (q1 : Fin 5) (q2 : Fin 1) (q3 : Fin 1) : Fin grid0.N :=
  ⟨1 * q0.val + 50 * q1.val + 250 * q2.val + 250 * q3.val, lt_of_lt_of_eq (by omega) N_0.symm⟩
theorem idx_onto5 : ∀ (q0 : Fin 50) (q1 : Fin 5) (q2 : Fin 1) (q3 : Fin 1), ∃ t : Fin cfg0.N, (cfg0.win 5).flush t = true ∧ win0_5.index t = ![q0.val + 0, q1.val + 0, q2.val + 0, q3.val + 0] :=
  fun q0 q1 q2 q3 => ⟨onto5Pt q0 q1 q2 q3, (by decide +kernel : ∀ (q0 : Fin 50) (q1 : Fin 5) (q2 : Fin 1) (q3 : Fin 1), win0_5.flush (onto5Pt q0 q1 q2 q3) = true ∧ win0_5.index (onto5Pt q0 q1 q2 q3) = ![q0.val + 0, q1.val + 0, q2.val + 0, q3.val + 0]) q0 q1 q2 q3⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2, e3, e4⟩ := idx_facts5 t
  funext y
  have hy0 : (y 0).val < 4 := (y 0).isLt
  have hy1 : (y 1).val < 8 := (y 1).isLt
  have hy2 : (y 2).val < 8 := (y 2).isLt
  have hy3 : (y 3).val < 128 := (y 3).isLt
  have hb0 : (((cfg0.win 5).blk t).view.emb y 0).val = win0_5.index t (0 : Fin 4) * 4 + 1 * (y 0).val := rfl
  have hb1 : (((cfg0.win 5).blk t).view.emb y 1).val = win0_5.index t (1 : Fin 4) * 8 + 1 * (y 1).val := rfl
  have hb2 : (((cfg0.win 5).blk t).view.emb y 2).val = win0_5.index t (2 : Fin 4) * 8 + 1 * (y 2).val := rfl
  have hb3 : (((cfg0.win 5).blk t).view.emb y 3).val = win0_5.index t (3 : Fin 4) * 128 + 1 * (y 3).val := rfl
  have hr : run5Of (((cfg0.win 5).blk t).view.emb y) = t.val := by
    show 1 * ((((cfg0.win 5).blk t).view.emb y 0).val / 4 - 0) + 50 * ((((cfg0.win 5).blk t).view.emb y 1).val / 8 - 0) + 250 * ((((cfg0.win 5).blk t).view.emb y 2).val / 8 - 0) + 250 * ((((cfg0.win 5).blk t).view.emb y 3).val / 128 - 0) = _
    rw [hb0, hb1, hb2, hb3]
    rw [show (win0_5.index t (0 : Fin 4) * 4 + 1 * (y 0).val) / 4 = win0_5.index t (0 : Fin 4) from by omega]; rw [show (win0_5.index t (1 : Fin 4) * 8 + 1 * (y 1).val) / 8 = win0_5.index t (1 : Fin 4) from by omega]; rw [show (win0_5.index t (2 : Fin 4) * 8 + 1 * (y 2).val) / 8 = win0_5.index t (2 : Fin 4) from by omega]; rw [show (win0_5.index t (3 : Fin 4) * 128 + 1 * (y 3).val) / 128 = win0_5.index t (3 : Fin 4) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 4 = (y 0).val; rw [hb0]; omega
    | ⟨1, _⟩ => show (((cfg0.win 5).blk t).view.emb y 1).val % 8 = (y 1).val; rw [hb1]; omega
    | ⟨2, _⟩ => show (((cfg0.win 5).blk t).view.emb y 2).val % 8 = (y 2).val; rw [hb2]; omega
    | ⟨3, _⟩ => show (((cfg0.win 5).blk t).view.emb y 3).val % 128 = (y 3).val; rw [hb3]; omega
  have hp : pt5Of (((cfg0.win 5).blk t).view.emb y) = t.val := by
    exact hr
  show (Pipeline.accAt (fun n h => stAt0 m c n h junk0) (stAt0 m c) 0 t.val _).2.2.2.1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S200x40x8x128.Idx) :
    i ∈ ((cfg0.win 5).blk t).view.set ↔ ∀ a : Fin 4, win0_5.index t a * S4x8x8x128.size a ≤ (i a).val ∧ (i a).val < win0_5.index t a * S4x8x8x128.size a + S4x8x8x128.size a := by
  show i ∈ ((View.whole main_v0_3).slice (win0_5.rect t)).set ↔ _
  rw [View.set_slice_whole, Rect.mem_set_unit]
  exact Iff.rfl

/-- THE COVERED INDICES: in some flushing point's block iff inside the box those blocks fill. -/
theorem covered_iff5 (i : S200x40x8x128.Idx) :
    (∃ t : Fin cfg0.N, (cfg0.win 5).flush t = true ∧ i ∈ ((cfg0.win 5).blk t).view.set) ↔ 0 ≤ (i 0).val ∧ (i 0).val < 200 ∧ 0 ≤ (i 1).val ∧ (i 1).val < 40 ∧ 0 ≤ (i 2).val ∧ (i 2).val < 8 ∧ 0 ≤ (i 3).val ∧ (i 3).val < 128 := by
  constructor
  · rintro ⟨t, -, hi⟩
    rw [mem_blk5] at hi
    have b0 : win0_5.index t (0 : Fin 4) * 4 ≤ (i 0).val ∧ (i 0).val < win0_5.index t (0 : Fin 4) * 4 + 4 := hi 0
    have b1 : win0_5.index t (1 : Fin 4) * 8 ≤ (i 1).val ∧ (i 1).val < win0_5.index t (1 : Fin 4) * 8 + 8 := hi 1
    have b2 : win0_5.index t (2 : Fin 4) * 8 ≤ (i 2).val ∧ (i 2).val < win0_5.index t (2 : Fin 4) * 8 + 8 := hi 2
    have b3 : win0_5.index t (3 : Fin 4) * 128 ≤ (i 3).val ∧ (i 3).val < win0_5.index t (3 : Fin 4) * 128 + 128 := hi 3
    obtain ⟨e0, e1, e2, e3, e4⟩ := idx_facts5 t
    omega
  · intro h
    have hi0 : (i 0).val < 200 := (i 0).isLt
    have hi1 : (i 1).val < 40 := (i 1).isLt
    have hi2 : (i 2).val < 8 := (i 2).isLt
    have hi3 : (i 3).val < 128 := (i 3).isLt
    obtain ⟨t, hft, ht⟩ := idx_onto5 ⟨(i 0).val / 4 - 0, by omega⟩ ⟨(i 1).val / 8 - 0, by omega⟩ ⟨(i 2).val / 8 - 0, by omega⟩ ⟨(i 3).val / 128 - 0, by omega⟩
    have q0 : win0_5.index t (0 : Fin 4) = (i 0).val / 4 - 0 + 0 := congrFun ht 0
    have q1 : win0_5.index t (1 : Fin 4) = (i 1).val / 8 - 0 + 0 := congrFun ht 1
    have q2 : win0_5.index t (2 : Fin 4) = (i 2).val / 8 - 0 + 0 := congrFun ht 2
    have q3 : win0_5.index t (3 : Fin 4) = (i 3).val / 128 - 0 + 0 := congrFun ht 3
    refine ⟨t, hft, ?_⟩
    rw [mem_blk5]
    intro a
    match a with
    | ⟨0, _⟩ => show win0_5.index t (0 : Fin 4) * 4 ≤ (i 0).val ∧ (i 0).val < win0_5.index t (0 : Fin 4) * 4 + 4; omega
    | ⟨1, _⟩ => show win0_5.index t (1 : Fin 4) * 8 ≤ (i 1).val ∧ (i 1).val < win0_5.index t (1 : Fin 4) * 8 + 8; omega
    | ⟨2, _⟩ => show win0_5.index t (2 : Fin 4) * 8 ≤ (i 2).val ∧ (i 2).val < win0_5.index t (2 : Fin 4) * 8 + 8; omega
    | ⟨3, _⟩ => show win0_5.index t (3 : Fin 4) * 128 ≤ (i 3).val ∧ (i 3).val < win0_5.index t (3 : Fin 4) * 128 + 128; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 200 := (i 0).isLt; have h1 : (i 1).val < 40 := (i 1).isLt; have h2 : (i 2).val < 8 := (i 2).isLt; have h3 : (i 3).val < 128 := (i 3).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0_0) = G2 m c
      ∧ r.2.mem ((c : Thread nD τ).loc main_v0_1) = G3 m c
      ∧ r.2.mem ((c : Thread nD τ).loc main_v0_2) = G4 m c
      ∧ r.2.mem ((c : Thread nD τ).loc main_v0_3) = G5 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      (post5 m r h c).trans (final5 m c),
      kept_main_arg0 m r h c,
      kept_main_arg1 m r h c⟩)
    (run_main m ρ)

end Cert.KernelIdeal.Value

end
-- ==== Proof.KernelIdeal.Arrays.lean ====
/- What the kernel's arrays hold after the run, off the inputs' arrays: block `(P, Q)` of the codes, the transposed codes and
   the scales is the block functions' value at block `(P, Q)` of the inputs, and the partial sums' last tile gives the row of
   sums. The sums themselves are read in `Sums`. -/
module

public import proofs.«01_k».proof.Proof.KernelIdeal.Point
public import proofs.«01_k».proof.Proof.KernelIdeal.Value

@[expose] public section

set_option maxRecDepth 16384

noncomputable section

namespace Cert.KernelIdeal.Gen

open Idealize.ShloMosaic Idealize.ShloMosaic.TcCoe Idealize.ShloMosaic.Tactic Idealize.ShloMosaic.ValueIdx
open Cert.KernelIdeal.Value

variable {F : FTy → Type} [FloatOps F] [Named F]
variable (m : (ℓ : Loc nD τ sig) → Buf (Elt F) ℓ) (c : Dev nD)

/-- Block `(P, Q)` of a whole input. -/
def gblk (X : Vec F S25600x5120 .bf16) (P Q : ℕ) : Vec F S128x128 .bf16 := fun z =>
  X (ix2 ⟨(128 * P + (z 0).val) % 25600, Nat.mod_lt _ (by norm_num)⟩ ⟨(128 * Q + (z 1).val) % 5120, Nat.mod_lt _ (by norm_num)⟩)

/-- The input tiles of point `t`. -/
abbrev xT (t : Fin cfg0.N) : Vec F S512x1024 .bf16 := iblk m c 0 t
abbrev gT (t : Fin cfg0.N) : Vec F S512x1024 .bf16 := iblk m c 1 t

/-- The two inputs. -/
abbrev X0 : Vec F S25600x5120 .bf16 := m ((c : Thread nD τ).loc main_arg0)
abbrev X1 : Vec F S25600x5120 .bf16 := m ((c : Thread nD τ).loc main_arg1)

theorem index0 : ∀ t : Fin cfg0.N, win0_0.index t = ![t.val % 50, t.val / 50] := (by decide +kernel : ∀ t : Fin grid0.N, _)
theorem index1 : ∀ t : Fin cfg0.N, win0_1.index t = ![t.val % 50, t.val / 50] := (by decide +kernel : ∀ t : Fin grid0.N, _)

theorem tN (t : Fin cfg0.N) : t.val < 250 := lt_of_lt_of_eq t.isLt N_0

/-- An entry of the first input's tile. -/
theorem xT_apply (t : Fin cfg0.N) (y : S512x1024.Idx) : xT m c t y = X0 m c
    (ix2 ⟨512 * (t.val % 50) + (y 0).val, by have := (y 0).isLt; have : (y 0).val < 512 := this; omega⟩
      ⟨1024 * (t.val / 50) + (y 1).val, by have := (y 1).isLt; have : (y 1).val < 1024 := this; have := tN t; omega⟩) := by
  refine congrArg (X0 m c) (funext fun a => ?_)
  have e0 : win0_0.index t (0 : Fin 2) = t.val % 50 := congrFun (index0 t) 0
  have e1 : win0_0.index t (1 : Fin 2) = t.val / 50 := congrFun (index0 t) 1
  fin_cases a <;> apply Fin.ext
  · show win0_0.index t (0 : Fin 2) * 512 + 1 * (y 0).val = 512 * (t.val % 50) + (y 0).val
    rw [e0]; omega
  · show win0_0.index t (1 : Fin 2) * 1024 + 1 * (y 1).val = 1024 * (t.val / 50) + (y 1).val
    rw [e1]; omega

/-- An entry of the second's. -/
theorem gT_apply (t : Fin cfg0.N) (y : S512x1024.Idx) : gT m c t y = X1 m c
    (ix2 ⟨512 * (t.val % 50) + (y 0).val, by have := (y 0).isLt; have : (y 0).val < 512 := this; omega⟩
      ⟨1024 * (t.val / 50) + (y 1).val, by have := (y 1).isLt; have : (y 1).val < 1024 := this; have := tN t; omega⟩) := by
  refine congrArg (X1 m c) (funext fun a => ?_)
  have e0 : win0_1.index t (0 : Fin 2) = t.val % 50 := congrFun (index1 t) 0
  have e1 : win0_1.index t (1 : Fin 2) = t.val / 50 := congrFun (index1 t) 1
  fin_cases a <;> apply Fin.ext
  · show win0_1.index t (0 : Fin 2) * 512 + 1 * (y 0).val = 512 * (t.val % 50) + (y 0).val
    rw [e0]; omega
  · show win0_1.index t (1 : Fin 2) * 1024 + 1 * (y 1).val = 1024 * (t.val / 50) + (y 1).val
    rw [e1]; omega

/-- A block of a tile whose entries are `Y`'s is a block of `Y`. -/
theorem blk_eq_gblk (x : Vec F S512x1024 .bf16) (Y : Vec F S25600x5120 .bf16) (t : Fin cfg0.N)
    (h : ∀ y : S512x1024.Idx, x y = Y
      (ix2 ⟨512 * (t.val % 50) + (y 0).val, by have := (y 0).isLt; have : (y 0).val < 512 := this; omega⟩
        ⟨1024 * (t.val / 50) + (y 1).val, by have := (y 1).isLt; have : (y 1).val < 1024 := this; have := tN t; omega⟩))
    (p q : ℕ) (hp : p < 4) (hq : q < 8) : blk x p q = gblk Y (4 * (t.val % 50) + p) (8 * (t.val / 50) + q) := by
  funext z
  have h0 : (z 0).val < 128 := (z 0).isLt
  have h1 : (z 1).val < 128 := (z 1).isLt
  have ht := tN t
  refine (h _).trans (congrArg Y (funext fun a => ?_))
  fin_cases a <;> apply Fin.ext
  · show 512 * (t.val % 50) + (128 * p + (z 0).val) % 512 = (128 * (4 * (t.val % 50) + p) + (z 0).val) % 25600
    rw [Nat.mod_eq_of_lt (show 128 * p + (z 0).val < 512 by omega),
      Nat.mod_eq_of_lt (show 128 * (4 * (t.val % 50) + p) + (z 0).val < 25600 by omega)]; omega
  · show 1024 * (t.val / 50) + (128 * q + (z 1).val) % 1024 = (128 * (8 * (t.val / 50) + q) + (z 1).val) % 5120
    rw [Nat.mod_eq_of_lt (show 128 * q + (z 1).val < 1024 by omega),
      Nat.mod_eq_of_lt (show 128 * (8 * (t.val / 50) + q) + (z 1).val < 5120 by omega)]; omega

theorem blk_xT (t : Fin cfg0.N) (p q : ℕ) (hp : p < 4) (hq : q < 8) :
    blk (xT m c t) p q = gblk (X0 m c) (4 * (t.val % 50) + p) (8 * (t.val / 50) + q) := blk_eq_gblk _ _ t (xT_apply m c t) p q hp hq
theorem blk_gT (t : Fin cfg0.N) (p q : ℕ) (hp : p < 4) (hq : q < 8) :
    blk (gT m c t) p q = gblk (X1 m c) (4 * (t.val % 50) + p) (8 * (t.val / 50) + q) := blk_eq_gblk _ _ t (gT_apply m c t) p q hp hq

/-! ## What the body leaves at point `t` -/

theorem outs3 (t : Fin cfg0.N) : (outsAt0 m c t.val t.isLt).2.1 = tCodes (xT m c t) (gT m c t) := by
  by_cases h0 : t.val % 50 = 0
  · rw [outsAt0_A m c t h0]; dsimp only; exact outA_3 (F := F) ..
  · rw [outsAt0_B m c t h0]; dsimp only; exact outB_3 (F := F) ..

theorem outs4 (t : Fin cfg0.N) : (outsAt0 m c t.val t.isLt).2.2.1 = tCodesT (xT m c t) (gT m c t) := by
  by_cases h0 : t.val % 50 = 0
  · rw [outsAt0_A m c t h0]; dsimp only; exact outA_4 (F := F) ..
  · rw [outsAt0_B m c t h0]; dsimp only; exact outB_4 (F := F) ..

theorem outs5 (t : Fin cfg0.N) : (outsAt0 m c t.val t.isLt).2.2.2.1 = tScale (xT m c t) (gT m c t) := by
  by_cases h0 : t.val % 50 = 0
  · rw [outsAt0_A m c t h0]; dsimp only; exact outA_5 (F := F) ..
  · rw [outsAt0_B m c t h0]; dsimp only; exact outB_5 (F := F) ..

/-- The accumulator after a channel's first tile, -/
theorem acc_first (t : Fin cfg0.N) (h0 : t.val % 50 = 0) :
    (outsAt0 m c t.val t.isLt).2.2.2.2 = tAcc4 (xT m c t) (gT m c t) k0_pay1 := by
  rw [outsAt0_A m c t h0]; dsimp only; exact soutA (F := F) ..

/-- and after a further one, from what it was. -/
theorem acc_next (t : Fin cfg0.N) (h0 : ¬ t.val % 50 = 0) :
    (outsAt0 m c t.val t.isLt).2.2.2.2
      = tAcc4 (xT m c t) (gT m c t) (outsAt0 m c (t.val - 1) (Nat.lt_of_le_of_lt (Nat.sub_le _ _) t.isLt)).2.2.2.2 := by
  rw [outsAt0_B m c t h0]; dsimp only; exact soutB (F := F) ..

/-- The row of partial sums is always the accumulator's. -/
theorem outs2 (t : Fin cfg0.N) : (outsAt0 m c t.val t.isLt).1 = k0_pay10 (outsAt0 m c t.val t.isLt).2.2.2.2 := by
  by_cases h0 : t.val % 50 = 0
  · rw [acc_first m c t h0, outsAt0_A m c t h0]; dsimp only; exact outA_2 (F := F) ..
  · rw [acc_next m c t h0, outsAt0_B m c t h0]; dsimp only; exact outB_2 (F := F) ..

/-! ## The arrays -/

/-- Entry `(R, C)` of the codes. -/
theorem G3_apply (i : S25600x5120.Idx) : G3 m c i
    = codeB (gblk (X0 m c) ((i 0).val / 128) ((i 1).val / 128)) (gblk (X1 m c) ((i 0).val / 128) ((i 1).val / 128))
      (ix2 ⟨(i 0).val % 128, Nat.mod_lt _ (by norm_num)⟩ ⟨(i 1).val % 128, Nat.mod_lt _ (by norm_num)⟩) := by
  have h0 : (i 0).val < 25600 := (i 0).isLt
  have h1 : (i 1).val < 5120 := (i 1).isLt
  have hp : pt3Of i < cfg0.N := lt_of_lt_of_eq (by show 1 * ((i 0).val / 512 - 0) + 50 * ((i 1).val / 1024 - 0) < 250; omega) N_0.symm
  have hm : pt3Of i % 50 = (i 0).val / 512 := by show (1 * ((i 0).val / 512 - 0) + 50 * ((i 1).val / 1024 - 0)) % 50 = _; omega
  have hd : pt3Of i / 50 = (i 1).val / 1024 := by show (1 * ((i 0).val / 512 - 0) + 50 * ((i 1).val / 1024 - 0)) / 50 = _; omega
  unfold G3
  rw [dif_pos hp, ← outsAt0_sweep m c _ hp, outs3 m c ⟨pt3Of i, hp⟩]
  show codeB (blk _ ((i 0).val % 512 / 128) ((i 1).val % 1024 / 128)) (blk _ ((i 0).val % 512 / 128) ((i 1).val % 1024 / 128))
    (ix2 ⟨(i 0).val % 512 % 128, _⟩ ⟨(i 1).val % 1024 % 128, _⟩) = _
  rw [blk_xT m c _ _ _ (by omega) (by omega), blk_gT m c _ _ _ (by omega) (by omega)]
  have e0 : 4 * (pt3Of i % 50) + (i 0).val % 512 / 128 = (i 0).val / 128 := by rw [hm]; omega
  have e1 : 8 * (pt3Of i / 50) + (i 1).val % 1024 / 128 = (i 1).val / 128 := by rw [hd]; omega
  have e2 : (i 0).val % 512 % 128 = (i 0).val % 128 := by omega
  have e3 : (i 1).val % 1024 % 128 = (i 1).val % 128 := by omega
  simp only [e0, e1, e2, e3]

/-- Entry `(C, R)` of the transposed codes. -/
theorem G4_apply (i : S5120x25600.Idx) : G4 m c i
    = codeTB (gblk (X0 m c) ((i 1).val / 128) ((i 0).val / 128)) (gblk (X1 m c) ((i 1).val / 128) ((i 0).val / 128))
      (ix2 ⟨(i 0).val % 128, Nat.mod_lt _ (by norm_num)⟩ ⟨(i 1).val % 128, Nat.mod_lt _ (by norm_num)⟩) := by
  have h0 : (i 0).val < 5120 := (i 0).isLt
  have h1 : (i 1).val < 25600 := (i 1).isLt
  have hp : pt4Of i < cfg0.N := lt_of_lt_of_eq (by show 50 * ((i 0).val / 1024 - 0) + 1 * ((i 1).val / 512 - 0) < 250; omega) N_0.symm
  have hm : pt4Of i % 50 = (i 1).val / 512 := by show (50 * ((i 0).val / 1024 - 0) + 1 * ((i 1).val / 512 - 0)) % 50 = _; omega
  have hd : pt4Of i / 50 = (i 0).val / 1024 := by show (50 * ((i 0).val / 1024 - 0) + 1 * ((i 1).val / 512 - 0)) / 50 = _; omega
  unfold G4
  rw [dif_pos hp, ← outsAt0_sweep m c _ hp, outs4 m c ⟨pt4Of i, hp⟩]
  show codeTB (blk _ ((i 1).val % 512 / 128) ((i 0).val % 1024 / 128)) (blk _ ((i 1).val % 512 / 128) ((i 0).val % 1024 / 128))
    (ix2 ⟨(i 0).val % 1024 % 128, _⟩ ⟨(i 1).val % 512 % 128, _⟩) = _
  rw [blk_xT m c _ _ _ (by omega) (by omega), blk_gT m c _ _ _ (by omega) (by omega)]
  have e0 : 4 * (pt4Of i % 50) + (i 1).val % 512 / 128 = (i 1).val / 128 := by rw [hm]; omega
  have e1 : 8 * (pt4Of i / 50) + (i 0).val % 1024 / 128 = (i 0).val / 128 := by rw [hd]; omega
  have e2 : (i 1).val % 512 % 128 = (i 1).val % 128 := by omega
  have e3 : (i 0).val % 1024 % 128 = (i 0).val % 128 := by omega
  simp only [e0, e1, e2, e3]

/-- Entry `(P, Q, r, l)` of the scales. -/
theorem G5_apply (i : S200x40x8x128.Idx) : G5 m c i
    = scaleB (gblk (X0 m c) (i 0).val (i 1).val) (gblk (X1 m c) (i 0).val (i 1).val) (ix4 0 0 (i 2) (i 3)) := by
  have h0 : (i 0).val < 200 := (i 0).isLt
  have h1 : (i 1).val < 40 := (i 1).isLt
  have h2 : (i 2).val < 8 := (i 2).isLt
  have h3 : (i 3).val < 128 := (i 3).isLt
  have hr : pt5Of i = 1 * ((i 0).val / 4 - 0) + 50 * ((i 1).val / 8 - 0) + 250 * ((i 2).val / 8 - 0) + 250 * ((i 3).val / 128 - 0) := rfl
  have hp : pt5Of i < cfg0.N := lt_of_lt_of_eq (by rw [hr]; omega) N_0.symm
  have hm : pt5Of i % 50 = (i 0).val / 4 := by rw [hr]; omega
  have hd : pt5Of i / 50 = (i 1).val / 8 := by rw [hr]; omega
  unfold G5
  rw [dif_pos hp, ← outsAt0_sweep m c _ hp, outs5 m c ⟨pt5Of i, hp⟩]
  show scaleB (blk _ ((i 0).val % 4) ((i 1).val % 8)) (blk _ ((i 0).val % 4) ((i 1).val % 8))
    (ix4 0 0 ⟨(i 2).val % 8, _⟩ ⟨(i 3).val % 128, _⟩) = _
  rw [blk_xT m c _ _ _ (by omega) (by omega), blk_gT m c _ _ _ (by omega) (by omega)]
  have e0 : 4 * (pt5Of i % 50) + (i 0).val % 4 = (i 0).val := by rw [hm]; omega
  have e1 : 8 * (pt5Of i / 50) + (i 1).val % 8 = (i 1).val := by rw [hd]; omega
  have e2 : (i 2).val % 8 = (i 2).val := by omega
  have e3 : (i 3).val % 128 = (i 3).val := by omega
  simp only [e0, e1, e2, e3]
  rfl

/-- Entry `C` of the sums. -/
theorem G2_apply (i : S1x5120.Idx) : G2 m c i
    = k0_pay10 (outsAt0 m c (50 * ((i 1).val / 1024) + 49)
        (lt_of_lt_of_eq (by have h1 : (i 1).val < 5120 := (i 1).isLt; omega) N_0.symm)).2.2.2.2
      (ix2 0 ⟨(i 1).val % 1024, Nat.mod_lt _ (by norm_num)⟩) := by
  have h0 : (i 0).val < 1 := (i 0).isLt
  have h1 : (i 1).val < 5120 := (i 1).isLt
  have hr : pt2Of i = 50 * ((i 1).val / 1024) + 49 := by
    show 50 * (5 * ((i 0).val / 1 - 0) + 1 * ((i 1).val / 1024 - 0)) + 49 = _; omega
  have hp : pt2Of i < cfg0.N := lt_of_lt_of_eq (by rw [hr]; omega) N_0.symm
  unfold G2
  rw [dif_pos hp, ← outsAt0_sweep m c _ hp, outs2 m c ⟨pt2Of i, hp⟩]
  simp only [hr]
  refine congrArg _ (funext fun a => ?_)
  fin_cases a <;> apply Fin.ext
  · show (i 0).val % 1 = 0; omega
  · rfl

end Cert.KernelIdeal.Gen

end
-- ==== Proof.KernelIdeal.Block.lean ====
/- What the kernel computes of one 128x128 block, read at an element over the extended reals. -/
module

public import proofs.«01_k».proof.Proof.KernelIdeal.Loops
public import proofs.«01_k».proof.Proof.Exponent
public import proofs.«01_k».proof.Proof.Scalar
public import proofs.«01_k».proof.Proof.Greatest
public import Idealize.ShloMosaic.Lib.Pointwise

@[expose] public section

set_option maxRecDepth 16384

noncomputable section

namespace Cert.KernelIdeal.Gen

open Idealize.ShloMosaic Cert.Gelu

/-- The named constant, at `Ideal`. -/
theorem named_kc : (Named.named κ "gelu_kc" 0x3D122279#32 : Ideal .f32) = kcE :=
  IdealRules.named_const.ideal_named_scalar _ _ _ _ rfl

/-- An element of the block of gradients: twice the gradient. -/
theorem pay11_apply (x g : Vec Ideal S128x128 .bf16) (z : S128x128.Idx) : k0_pay11 x g z = twice (x z) (g z) := by
  pointwise [k0_pay11]
  simp only [named_kc, ofBits_K, ofBits_one, ofBits_three]
  rfl

/-- The block's largest magnitude. -/
abbrev amaxB (x g : Vec Ideal S128x128 .bf16) : EReal := k0_pay13 x g (ix1 0)

theorem amax_greatest (x g : Vec Ideal S128x128 .bf16) :
    IsGreatest (Set.range fun z : S128x128.Idx => max (twice (x z) (g z)) (-(twice (x z) (g z)))) (amaxB x g) := by
  have e : (fun z : S128x128.Idx => max (twice (x z) (g z)) (-(twice (x z) (g z)))) = absf (k0_pay11 x g) :=
    funext fun z => by rw [← pay11_apply]; rfl
  have h : IsGreatest (Set.range (k0_pay13 x g)) (amaxB x g) := by
    refine ⟨⟨_, rfl⟩, ?_⟩
    rintro _ ⟨j, rfl⟩
    exact le_of_eq (congrArg (k0_pay13 x g) (funext fun a => by fin_cases a; exact Subsingleton.elim (α := Fin 1) _ _))
  rw [e]
  unfold k0_pay13 at h
  refine greatest_of_shapeCast _ _ (greatest_of_multiReduction _ _ _ _ _ ofBits_bot (by decide)
    (greatest_of_multiReduction _ _ _ _ _ ofBits_bot (by decide) (greatest_of_shapeCast _ _
      (greatest_of_multiReduction _ _ _ _ _ ofBits_bot (by decide) h))))

/-- The ratio the exponent is taken of. -/
abbrev ratioB (x g : Vec Ideal S128x128 .bf16) : EReal := halfE * amaxB x g * ((rR : ℝ) : EReal)

theorem pay14_apply (x g : Vec Ideal S128x128 .bf16) (z : S8x128.Idx) : k0_pay14 (k0_pay13 x g) z = ratioB x g := by
  generalize hA : k0_pay13 x g = A
  pointwise [k0_pay14]
  simp only [ofBits_half, ofBits_R]
  subst hA
  rfl

/-- One bit of the search, at an element. -/
theorem step_apply (a : FVec Ideal S8x128 .f32) (f : IVec S8x128 32) (b : BitVec 32) (z : S8x128.Idx) :
    select (cmpf .olt a (bitcastToFloat .f32 (shli (addi f (broadcast S8x128 b) : IVec S8x128 32) (broadcast S8x128 23#32) : IVec S8x128 32))) f
      (addi f (broadcast S8x128 b)) z = stepW (a z) (f z) b := rfl

theorem pay15_apply (v : FVec Ideal S1 .f32) (z : S8x128.Idx) : k0_pay15 v z = headW (k0_pay14 v z) := by
  unfold k0_pay15
  simp only [step_apply]
  rfl

/-- The exponent, the same at every place of its 8x128 tile. -/
theorem exp_apply (x g : Vec Ideal S128x128 .bf16) (z : S8x128.Idx) : expB x g z = expW (ratioB x g) := by
  unfold expB k0_pay17 k0_pay16
  have last : ∀ (f : IVec S8x128 32), select (cmpi .slt f (broadcast S8x128 1#32)) (broadcast S8x128 0#32) (subi f (broadcast S8x128 126#32)) z
      = Scalar.select (IntOp.cmpi .slt (f z) 1#32) 0#32 (IntOp.subi (f z) 126#32) := fun _ => rfl
  simp only [last, step_apply, pay15_apply, pay14_apply]

/-- The scale. -/
theorem scale_apply (x g : Vec Ideal S128x128 .bf16) (s : Fin 8) (l : Fin 128) :
    scaleB x g (ix4 0 0 s l) = pow2W (expW (ratioB x g)) := by
  unfold scaleB
  pointwise [k0_pay3]
  rw [exp_apply]

/-- A code. -/
theorem code_apply (x g : Vec Ideal S128x128 .bf16) (z : S128x128.Idx) :
    codeB x g z = min ((57344 : ℝ) : EReal) (max ((-57344 : ℝ) : EReal)
      (twice (x z) (g z) * (halfE * pow2W (IntOp.subi 0#32 (expW (ratioB x g)))))) := by
  unfold codeB k0_pay18
  have e : k0_pay17 (k0_pay14 (k0_pay13 x g)) (k0_pay15 (k0_pay13 x g)) (k0_pay16 (k0_pay13 x g)) 23#32 = expB x g := by
    unfold expB; rfl
  rw [e]
  have he : expB x g = fun _ => expW (ratioB x g) := funext fun z => exp_apply x g z
  rw [he]
  have hp : k0_pay11 x g = fun z => twice (x z) (g z) := funext fun z => pay11_apply x g z
  rw [hp]
  pointwise
  simp only [ofBits_half, ofBits_hi, ofBits_lo]

/-- A transposed code. -/
theorem codeT_apply (x g : Vec Ideal S128x128 .bf16) (a b : Fin 128) : codeTB x g (ix2 a b) = codeB x g (ix2 b a) := by
  unfold codeTB
  generalize codeB x g = B
  pointwise [k0_pay2]

/-- The accumulator's columns: the block's rows added, those of one residue modulo 8 in each row. -/
theorem acc_apply (x g : Vec Ideal S128x128 .bf16) (v : Vec Ideal S8x128 .f32) (s : Fin 8) (l : Fin 128) :
    accB x g v (ix2 s l) = v (ix2 s l) + ∑ r : Fin 16, twice (x (ix2 ⟨r.val * 8 + s.val, by omega⟩ l)) (g (ix2 ⟨r.val * 8 + s.val, by omega⟩ l)) := by
  unfold accB k0_pay12
  have hp : k0_pay11 x g = fun z => twice (x z) (g z) := funext fun z => pay11_apply x g z
  rw [hp]
  pointwise

end Cert.KernelIdeal.Gen
-- ==== Proof.KernelIdeal.Sums.lean ====
/- The kernel's row of sums, over the extended reals: half the sum, over all rows, of twice the gradient. -/
module

public import proofs.«01_k».proof.Proof.KernelIdeal.Arrays
public import proofs.«01_k».proof.Proof.KernelIdeal.Block

@[expose] public section

set_option maxRecDepth 16384

noncomputable section

namespace Cert.KernelIdeal.Gen

open Idealize.ShloMosaic Cert.Gelu Cert.KernelIdeal.Value

/-- Twice the gradient's entry at row `R` and column `C` of the inputs. -/
def T (X G : Vec Ideal S25600x5120 .bf16) (R C : ℕ) : EReal :=
  twice (X (ix2 ⟨R % 25600, Nat.mod_lt _ (by norm_num)⟩ ⟨C % 5120, Nat.mod_lt _ (by norm_num)⟩))
    (G (ix2 ⟨R % 25600, Nat.mod_lt _ (by norm_num)⟩ ⟨C % 5120, Nat.mod_lt _ (by norm_num)⟩))

variable (m : (ℓ : Loc nD τ sig) → Buf (Elt Ideal) ℓ) (c : Dev nD)

/-- The sum over the rows `s`, `s + 8`, … of the first `L` row blocks, in column `C`. -/
abbrev upTo (L s C : ℕ) : EReal := ∑ j ∈ Finset.range (16 * L), T (X0 m c) (X1 m c) (8 * j + s) C

/-- The rows of the next block add up to the longer sum. -/
theorem upTo_succ (L s C : ℕ) :
    upTo m c L s C + ∑ r : Fin 16, T (X0 m c) (X1 m c) (128 * L + (r.val * 8 + s)) C = upTo m c (L + 1) s C := by
  rw [Fin.sum_univ_eq_sum_range (fun r => T (X0 m c) (X1 m c) (128 * L + (r * 8 + s)) C) 16]
  unfold upTo
  rw [show 16 * (L + 1) = 16 * L + 16 by ring, Finset.sum_range_add]
  refine congrArg _ (Finset.sum_congr rfl fun r _ => ?_)
  rw [show 128 * L + (r * 8 + s) = 8 * (16 * L + r) + s by ring]

/-- Adding a row of blocks of point `t`'s tile takes the accumulator from the sums over the row blocks above it to the sums with it. -/
theorem tAcc_step (t : Fin cfg0.N) (p : ℕ) (hp : p < 4) (a : Vec Ideal S8x1024 .f32) (y : S8x1024.Idx)
    (ha : a y = upTo m c (4 * (t.val % 50) + p) (y 0).val (1024 * (t.val / 50) + (y 1).val)) :
    tAcc (xT m c t) (gT m c t) p a y = upTo m c (4 * (t.val % 50) + p + 1) (y 0).val (1024 * (t.val / 50) + (y 1).val) := by
  have h1 : (y 1).val < 1024 := (y 1).isLt
  rw [← upTo_succ, ← ha]
  unfold tAcc
  rw [blk_xT m c t p _ hp (by omega), blk_gT m c t p _ hp (by omega)]
  refine (acc_apply _ _ _ (y 0) ⟨(y 1).val % 128, Nat.mod_lt _ (by norm_num)⟩).trans ?_
  have e : accCols a ((y 1).val / 128) (ix2 (y 0) ⟨(y 1).val % 128, Nat.mod_lt _ (by norm_num)⟩) = a y := by
    refine congrArg a (funext fun b => ?_)
    fin_cases b <;> apply Fin.ext
    · rfl
    · show (128 * ((y 1).val / 128) + (y 1).val % 128) % 1024 = (y 1).val; omega
  rw [e]
  refine congrArg _ (Finset.sum_congr rfl fun r _ => ?_)
  rw [show 1024 * (t.val / 50) + (y 1).val = 128 * (8 * (t.val / 50) + (y 1).val / 128) + (y 1).val % 128 by omega]
  rfl

/-- A whole tile. -/
theorem tAcc4_step (t : Fin cfg0.N) (a : Vec Ideal S8x1024 .f32) (y : S8x1024.Idx)
    (ha : a y = upTo m c (4 * (t.val % 50)) (y 0).val (1024 * (t.val / 50) + (y 1).val)) :
    tAcc4 (xT m c t) (gT m c t) a y = upTo m c (4 * (t.val % 50) + 4) (y 0).val (1024 * (t.val / 50) + (y 1).val) :=
  tAcc_step m c t 3 (by norm_num) _ y <| tAcc_step m c t 2 (by norm_num) _ y <| tAcc_step m c t 1 (by norm_num) _ y <|
    tAcc_step m c t 0 (by norm_num) _ y ha

/-- The accumulator starts at zero. -/
theorem pay1_apply (y : S8x1024.Idx) : k0_pay1 (F := Ideal) y = 0 := by
  pointwise [k0_pay1]

/-- The accumulator after tile `n` of a channel. -/
theorem acc_eq (ch : ℕ) (hch : ch < 5) (y : S8x1024.Idx) : ∀ (n : ℕ) (hn : n < 50) (h : 50 * ch + n < cfg0.N),
    (outsAt0 m c (50 * ch + n) h).2.2.2.2 y = upTo m c (4 * n + 4) (y 0).val (1024 * ch + (y 1).val)
  | 0, _, h => by
    have hm : (50 * ch + 0) % 50 = 0 := by omega
    have hd : (50 * ch + 0) / 50 = ch := by omega
    have key := tAcc4_step m c ⟨50 * ch + 0, h⟩ (k0_pay1 (F := Ideal)) y (by
      rw [pay1_apply]; simp only [hm]; rfl)
    simp only [hm, hd] at key
    rw [acc_first m c ⟨50 * ch + 0, h⟩ hm]
    exact key
  | n + 1, hn, h => by
    have hm : (50 * ch + (n + 1)) % 50 = n + 1 := by omega
    have hd : (50 * ch + (n + 1)) / 50 = ch := by omega
    have ih := acc_eq ch hch y n (by omega) (by omega)
    have key := tAcc4_step m c ⟨50 * ch + (n + 1), h⟩ (outsAt0 m c (50 * ch + n) (by omega)).2.2.2.2 y (by
      simp only [hm, hd]; exact ih)
    simp only [hm, hd] at key
    rw [acc_next m c ⟨50 * ch + (n + 1), h⟩ (by show ¬ (50 * ch + (n + 1)) % 50 = 0; omega)]
    exact key

/-- Rows counted by their remainder by eight and their quotient. -/
theorem sum_by_eight (f : ℕ → EReal) : ∀ n : ℕ,
    ∑ s ∈ Finset.range 8, ∑ j ∈ Finset.range n, f (8 * j + s) = ∑ R ∈ Finset.range (8 * n), f R
  | 0 => by simp
  | n + 1 => by
    rw [show 8 * (n + 1) = 8 * n + 8 by ring, Finset.sum_range_add, ← sum_by_eight f n, ← Finset.sum_add_distrib]
    exact Finset.sum_congr rfl fun s _ => Finset.sum_range_succ _ _

/-- A half goes into a sum. -/
theorem half_sum (f : ℕ → EReal) : ∀ n : ℕ, halfE * ∑ R ∈ Finset.range n, f R = ∑ R ∈ Finset.range n, halfE * f R
  | 0 => by simp
  | n + 1 => by
    rw [Finset.sum_range_succ, Finset.sum_range_succ, ← half_sum f n]
    exact EReal.left_distrib_of_nonneg_of_ne_top (EReal.coe_nonneg.mpr (by norm_num)) (EReal.coe_ne_top _) _ _

/-- The row of sums of an accumulator. -/
theorem pay10_apply (a : Vec Ideal S8x1024 .f32) (l : Fin 1024) :
    k0_pay10 a (ix2 0 l) = halfE * ∑ s : Fin 8, a (ix2 s l) := by
  pointwise [k0_pay10]
  rw [ofBits_half]

/-- Entry `C` of the kernel's sums is the sum of the gradient's column `C`. -/
theorem G2_eq (i : S1x5120.Idx) :
    G2 m c i = ∑ R : Fin 25600, dgelu (X0 m c (ix2 R (i 1))) (X1 m c (ix2 R (i 1))) := by
  have h1 : (i 1).val < 5120 := (i 1).isLt
  have hC : 1024 * ((i 1).val / 1024) + (i 1).val % 1024 = (i 1).val := by omega
  rw [G2_apply]
  refine (pay10_apply _ _).trans ?_
  have hs : ∀ s : Fin 8, (outsAt0 m c (50 * ((i 1).val / 1024) + 49)
        (lt_of_lt_of_eq (by omega) N_0.symm)).2.2.2.2 (ix2 s ⟨(i 1).val % 1024, Nat.mod_lt _ (by norm_num)⟩)
      = upTo m c 200 s.val (i 1).val := fun s => by
    refine (acc_eq m c _ (by omega) _ 49 (by norm_num) _).trans ?_
    show upTo m c (4 * 49 + 4) s.val (1024 * ((i 1).val / 1024) + (i 1).val % 1024) = _
    rw [hC]
  rw [Finset.sum_congr rfl fun s _ => hs s, Fin.sum_univ_eq_sum_range (fun s => upTo m c 200 s (i 1).val) 8,
    sum_by_eight (fun R => T (X0 m c) (X1 m c) R (i 1).val), half_sum,
    Fin.sum_univ_eq_sum_range (fun R => halfE * T (X0 m c) (X1 m c) R (i 1).val) 25600 |>.symm]
  refine Finset.sum_congr rfl fun R _ => ?_
  have eR : (⟨R.val % 25600, Nat.mod_lt _ (by norm_num)⟩ : Fin 25600) = R := Fin.ext (Nat.mod_eq_of_lt R.isLt)
  have eC : (⟨(i 1).val % 5120, Nat.mod_lt _ (by norm_num)⟩ : Fin 5120) = i 1 := Fin.ext (Nat.mod_eq_of_lt h1)
  unfold T
  rw [half_twice, eR, eC]

end Cert.KernelIdeal.Gen
-- ==== Proof.ReferenceIdeal.Terms.lean ====
/- What the reference's host operations leave in the arrays that its results are read from, as terms of the two inputs. -/
module

public import proofs.«01_k».proof.Proof.Gen.ReferenceIdeal.Value
public import Idealize.ShloMosaic.Lib.StableHlo.RunRead
public import Idealize.ShloMosaic.Lib.Claim

@[expose] public section

set_option maxRecDepth 16384

noncomputable section

namespace Cert.ReferenceIdeal.Gen

open Idealize.ShloMosaic Idealize.ShloMosaic.TcCoe Idealize.ShloMosaic.Tactic

variable {F : FTy → Type} [FloatOps F]

/-- A constant, over the whole gradient. -/
abbrev splat (w : BitVec 32) : FVec F S25600x5120 .f32 := broadcastInDim S25600x5120 ![] bcast_S_S25600x5120 (constant S_ .f32 w)
/-- A constant, over the blocks. -/
abbrev splatB (w : BitVec 32) : FVec F S200x40 .f32 := broadcastInDim S200x40 ![] bcast_S_S200x40 (constant S_ .f32 w)
/-- A constant, over the rows in blocks. -/
abbrev splatR (w : BitVec 32) : FVec F S200x128x5120 .f32 := broadcastInDim S200x128x5120 ![] bcast_S_S200x128x5120 (constant S_ .f32 w)

/-- The tanh of the cubic polynomial. -/
def tanhR (x : FVec F S25600x5120 .f32) : FVec F S25600x5120 .f32 :=
  Host.tanh (mulf (splat 0x3F4C422A#32) (addf x (mulf (mulf (mulf (splat 0x3D372713#32) x) x) x)))

/-- The gradient. -/
def gradR (x g : FVec F S25600x5120 .bf16) : FVec F S25600x5120 .f32 :=
  mulf (extf .f32 g bitsLt_bf16_f32)
    (addf (mulf (splat 0x3F000000#32) (addf (splat 0x3F800000#32) (tanhR (extf .f32 x bitsLt_bf16_f32))))
      (mulf (mulf (mulf (mulf (splat 0x3F000000#32) (extf .f32 x bitsLt_bf16_f32))
          (subf (splat 0x3F800000#32) (mulf (tanhR (extf .f32 x bitsLt_bf16_f32)) (tanhR (extf .f32 x bitsLt_bf16_f32)))))
          (splat 0x3F4C422A#32))
        (addf (splat 0x3F800000#32) (mulf (splat 0x40400000#32)
          (mulf (mulf (splat 0x3D372713#32) (extf .f32 x bitsLt_bf16_f32)) (extf .f32 x bitsLt_bf16_f32))))))

/-- The sums of the gradient over its rows. -/
def biasR (d : FVec F S25600x5120 .f32) : FVec F S1x5120 .f32 :=
  broadcastInDim S1x5120 ![1] bcast_S5120_S1x5120_1
    (Host.reduceAdd d (constant S_ .f32 0x00000000#32) reducesTo_S25600x5120_S5120_d0 h_S_)

/-- The gradient's rows in blocks of 128. -/
def rowsR (d : FVec F S25600x5120 .f32) : FVec F S200x128x5120 .f32 := shapeCast S200x128x5120 d shapeCasts_S25600x5120_S200x128x5120

/-- The largest magnitude of each block. -/
def amaxR (d : FVec F S25600x5120 .f32) : FVec F S200x40 .f32 :=
  Host.reduce FloatOps.maximumf (shapeCast S200x40x128
      (Host.reduce FloatOps.maximumf (Host.absf (rowsR d)) (constant S_ .f32 0xFF800000#32) reducesTo_S200x128x5120_S200x5120_d1 h_S_)
      shapeCasts_S200x5120_S200x40x128)
    (constant S_ .f32 0xFF800000#32) reducesTo_S200x40x128_S200x40_d2 h_S_

/-- The exponent of each block's scale. -/
def exponentR (a : FVec F S200x40 .f32) : FVec F S200x40 .f32 :=
  select (cmpf .olt (mulf a (splatB 0x37924925#32)) (splatB 0x00800000#32)) (splatB 0x00000000#32)
    (addf (Host.floor (Host.divf (Host.log (mulf a (splatB 0x37924925#32)))
      (broadcastInDim S200x40 ![] bcast_S_S200x40 (Host.log (constant S_ .f32 0x40000000#32))))) (splatB 0x3F800000#32))

/-- Each block's scale, over its tile of the scale array. -/
def scaleR (a : FVec F S200x40 .f32) : FVec F S200x40x8x128 .f32 :=
  broadcastInDim S200x40x8x128 ![0, 1, 2, 3] bcast_S200x40x1x1_S200x40x8x128_0_1_2_3
    (broadcastInDim S200x40x1x1 ![0, 1] bcast_S200x40_S200x40x1x1_0_1 (Host.powf (splatB 0x40000000#32) (exponentR a)))

/-- Each block's reciprocal scale, at each of its elements. -/
def invR (a : FVec F S200x40 .f32) : FVec F S200x128x5120 .f32 :=
  broadcastInDim S200x128x5120 ![0, 1, 2] bcast_S200x1x5120_S200x128x5120_0_1_2
    (broadcastInDim S200x1x5120 ![0, 2] bcast_S200x5120_S200x1x5120_0_2
      (shapeCast S200x5120 (broadcastInDim S200x40x128 ![0, 1, 2] bcast_S200x40x1_S200x40x128_0_1_2
        (broadcastInDim S200x40x1 ![0, 1] bcast_S200x40_S200x40x1_0_1 (Host.powf (splatB 0x40000000#32) (Host.negf (exponentR a)))))
        shapeCasts_S200x40x128_S200x5120))

/-- The scaled gradient, clipped. -/
def codesR (d : FVec F S25600x5120 .f32) (a : FVec F S200x40 .f32) : FVec F S25600x5120 .f32 :=
  shapeCast S25600x5120 (minimumf (splatR 0x47600000#32) (maximumf (splatR 0xC7600000#32) (mulf (rowsR d) (invR a))))
    shapeCasts_S200x128x5120_S25600x5120

variable (m : (ℓ : Loc nD τ sig) → Buf (Elt F) ℓ) (c : Dev nD)

abbrev X0 : Vec F S25600x5120 .bf16 := m ((c : Thread nD τ).loc main_arg0)
abbrev X1 : Vec F S25600x5120 .bf16 := m ((c : Thread nD τ).loc main_arg1)

theorem V_bias : V m c main_v63 = biasR (gradR (X0 m c) (X1 m c)) := by
  unfold_abbrev_sides
  after_reads_simp
  rfl

theorem V_scale : V m c main_v65 = scaleR (amaxR (gradR (X0 m c) (X1 m c))) := by
  unfold_abbrev_sides
  after_reads_simp
  rfl

theorem V_codes : V m c main_v62 = codesR (gradR (X0 m c) (X1 m c)) (amaxR (gradR (X0 m c) (X1 m c))) := by
  unfold_abbrev_sides
  after_reads_simp
  rfl

end Cert.ReferenceIdeal.Gen
-- ==== Proof.ReferenceIdeal.Read.lean ====
/- The reference's results, read at an element over the extended reals. -/
module

public import proofs.«01_k».proof.Proof.ReferenceIdeal.Terms
public import proofs.«01_k».proof.Proof.Quant
public import Idealize.ShloMosaic.Lib.Pointwise

@[expose] public section

set_option maxRecDepth 16384

noncomputable section

namespace Cert.ReferenceIdeal.Gen

open Idealize.ShloMosaic Cert.Gelu

/-- An element of the gradient. -/
theorem grad_apply (x g : FVec Ideal S25600x5120 .bf16) (i : S25600x5120.Idx) : gradR x g i = dgelu (x i) (g i) := by
  pointwise [gradR, tanhR]
  simp only [ofBits_K, ofBits_C, ofBits_one, ofBits_half, ofBits_three]
  rfl

/-- A sum of the gradient over its rows. -/
theorem bias_apply (d : FVec Ideal S25600x5120 .f32) (j : Fin 5120) :
    biasR d (ix2 0 j) = ∑ R : Fin 25600, d (ix2 R j) := by
  pointwise [biasR]

/-- Element `(r, l)` of block `(P, Q)`. -/
abbrev cell (P : Fin 200) (Q : Fin 40) (z : Fin 128 × Fin 128) : S25600x5120.Idx :=
  ix2 ⟨P.val * 128 + z.1.val, by omega⟩ ⟨Q.val * 128 + z.2.val, by omega⟩

/-- A block's largest magnitude. -/
theorem amax_greatest (d : FVec Ideal S25600x5120 .f32) (P : Fin 200) (Q : Fin 40) :
    IsGreatest (Set.range fun z => max (d (cell P Q z)) (-(d (cell P Q z)))) (amaxR d (ix2 P Q)) := by
  pointwise [amaxR, rowsR]
  simp only [ofBits_bot]
  exact fold_fold_greatest (by norm_num) (by norm_num)
    fun r l => max (d (cell P Q (r, l))) (-(d (cell P Q (r, l))))

/-- The exponent of a block's scale. -/
theorem exponent_apply (a : FVec Ideal S200x40 .f32) (j : S200x40.Idx) :
    exponentR a j = expRef (a j * ((rR : ℝ) : EReal)) := by
  rw [← ofBits_R]
  rfl

/-- A scale. -/
theorem scale_apply (a : FVec Ideal S200x40 .f32) (P : Fin 200) (Q : Fin 40) (s : Fin 8) (l : Fin 128) :
    scaleR a (ix4 P Q s l) = scaleRef (a (ix2 P Q)) := by
  pointwise [scaleR]
  rw [exponent_apply]

/-- A value that is rounded to a code. -/
theorem codes_apply (d : FVec Ideal S25600x5120 .f32) (a : FVec Ideal S200x40 .f32) (i : S25600x5120.Idx) :
    codesR d a i = min ((57344 : ℝ) : EReal) (max ((-57344 : ℝ) : EReal)
      (d i * invRef (a (ix2 ⟨(i 0).val / 128, by have : (i 0).val < 25600 := (i 0).isLt; omega⟩
        ⟨(i 1).val / 128, by have : (i 1).val < 5120 := (i 1).isLt; omega⟩)))) := by
  pointwise [codesR, rowsR, invR]
  simp only [exponent_apply, ofBits_hi, ofBits_lo]

end Cert.ReferenceIdeal.Gen
-- ==== Proof.Equation.lean ====
/- The equation: each of the kernel's arrays is the reference's, where the second input's entries are finite. -/
module

public import proofs.«01_k».proof.Proof.KernelIdeal.Sums
public import proofs.«01_k».proof.Proof.ReferenceIdeal.Read

@[expose] public section

set_option maxRecDepth 16384

noncomputable section

namespace Cert.Gelu

open Idealize.ShloMosaic Cert.ReferenceIdeal.Gen
open Cert.KernelIdeal (S25600x5120 S5120x25600 S1x5120 S200x40x8x128 S128x128)
open Cert.KernelIdeal.Gen (gblk amaxB codeB codeTB scaleB)

variable (X G : Vec Ideal S25600x5120 .bf16)

/-- An entry of a block, by its place in the array. -/
theorem gblk_cell (P : Fin 200) (Q : Fin 40) (z : S128x128.Idx) : gblk X P.val Q.val z = X (cell P Q (z 0, z 1)) := by
  have h0 : (z 0).val < 128 := (z 0).isLt
  have h1 : (z 1).val < 128 := (z 1).isLt
  refine congrArg X (funext fun a => ?_)
  fin_cases a <;> apply Fin.ext
  · show (128 * P.val + (z 0).val) % 25600 = P.val * 128 + (z 0).val; omega
  · show (128 * Q.val + (z 1).val) % 5120 = Q.val * 128 + (z 1).val; omega

/-- The reference's largest magnitude of a block, over the kernel's block. -/
theorem amax_block (P : Fin 200) (Q : Fin 40) :
    IsGreatest (Set.range fun z : S128x128.Idx => max (dgelu (gblk X P.val Q.val z) (gblk G P.val Q.val z))
      (-(dgelu (gblk X P.val Q.val z) (gblk G P.val Q.val z)))) (amaxR (F := Ideal) (gradR (F := Ideal) X G) (ix2 P Q)) := by
  have h := Cert.ReferenceIdeal.Gen.amax_greatest (gradR (F := Ideal) X G) P Q
  have hs : Function.Surjective fun z : S128x128.Idx => ((z 0, z 1) : Fin 128 × Fin 128) := fun w => ⟨ix2 w.1 w.2, rfl⟩
  rw [← hs.range_comp] at h
  refine (congrArg (fun f => IsGreatest (Set.range f) (amaxR (F := Ideal) (gradR (F := Ideal) X G) (ix2 P Q))) (funext fun z => ?_)).mp h
  exact congrArg (fun v : EReal => max v (-v))
    ((grad_apply X G _).trans (congrArg₂ dgelu (gblk_cell X P Q z).symm (gblk_cell G P Q z).symm))

variable (hG : ∀ i, max (G i) (-(G i)) ≤ bfE)
include hG

/-- A scale. -/
theorem scale_block (P : Fin 200) (Q : Fin 40) (s : Fin 8) (l : Fin 128) :
    scaleB (gblk X P.val Q.val) (gblk G P.val Q.val) (ix4 0 0 s l) = scaleR (amaxR (F := Ideal) (gradR (F := Ideal) X G)) (ix4 P Q s l) := by
  rw [Cert.KernelIdeal.Gen.scale_apply, Cert.ReferenceIdeal.Gen.scale_apply]
  exact scale_eq (gblk X P.val Q.val) (gblk G P.val Q.val) (fun _ => hG _) (Cert.KernelIdeal.Gen.amax_greatest _ _) (amax_block X G P Q)

/-- A code. -/
theorem code_block (i : S25600x5120.Idx) :
    codeB (gblk X ((i 0).val / 128) ((i 1).val / 128)) (gblk G ((i 0).val / 128) ((i 1).val / 128))
      (ix2 ⟨(i 0).val % 128, Nat.mod_lt _ (by norm_num)⟩ ⟨(i 1).val % 128, Nat.mod_lt _ (by norm_num)⟩)
      = codesR (F := Ideal) (gradR (F := Ideal) X G) (amaxR (F := Ideal) (gradR (F := Ideal) X G)) i := by
  have h0 : (i 0).val < 25600 := (i 0).isLt
  have h1 : (i 1).val < 5120 := (i 1).isLt
  have e (Y : Vec Ideal S25600x5120 .bf16) : gblk Y ((i 0).val / 128) ((i 1).val / 128)
      (ix2 ⟨(i 0).val % 128, Nat.mod_lt _ (by norm_num)⟩ ⟨(i 1).val % 128, Nat.mod_lt _ (by norm_num)⟩) = Y i := by
    refine congrArg Y (funext fun a => ?_)
    fin_cases a <;> apply Fin.ext
    · show (128 * ((i 0).val / 128) + (i 0).val % 128) % 25600 = (i 0).val; omega
    · show (128 * ((i 1).val / 128) + (i 1).val % 128) % 5120 = (i 1).val; omega
  rw [Cert.KernelIdeal.Gen.code_apply, codes_apply, grad_apply, e X, e G]
  rw [code_eq (gblk X ((i 0).val / 128) ((i 1).val / 128)) (gblk G ((i 0).val / 128) ((i 1).val / 128)) (fun _ => hG _)
    (Cert.KernelIdeal.Gen.amax_greatest _ _) (amax_block X G ⟨(i 0).val / 128, by omega⟩ ⟨(i 1).val / 128, by omega⟩)]

end Cert.Gelu
-- ==== Proof.ReferenceIdeal.Arrays.lean ====
/- The reference's two arrays of codes after the run, over the extended reals: its last call casts the array before it, where a
   cast is the identity, and writes it as it is and transposed. -/
module

public import proofs.«01_k».proof.Proof.ReferenceIdeal.Terms
public import proofs.«01_k».proof.Proof.Gen.ReferenceIdeal.Value
public import Idealize.ShloMosaic.Lib.Claim
public import Idealize.ShloMosaic.Lib.Pointwise
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic Cert.ReferenceIdeal.Value

variable (m : (ℓ : Loc nD τ sig) → Buf (Elt Ideal) ℓ) (c : Dev nD)

/-- The scaled, clipped gradient. -/
abbrev codes : FVec Ideal S25600x5120 .f32 := codesR (gradR (X0 m c) (X1 m c)) (amaxR (gradR (X0 m c) (X1 m c)))

theorem iblk_eq (t : Fin cfg0.N) : iblk m c 0 t = codes m c := by
  have h : iblk m c 0 t = V m c main_v62 := by
    funext i
    refine congrArg (V m c main_v62) (funext fun a => ?_)
    fin_cases a <;> apply Fin.ext
    · show 0 * 25600 + 1 * (i 0).val = (i 0).val; omega
    · show 0 * 5120 + 1 * (i 1).val = (i 1).val; omega
  exact h.trans (V_codes m c)

/-- The codes. -/
theorem arr1 : (dats m 0 c).arrAt 1 cfg0.N = fun i => codes m c i := by
  refine (dats m 0 c).arrAt_eq_of_covers 1 _ (by decide +kernel) fun t hf y => ?_
  blk_simp
  rw [after0_1, iblk_eq]
  refine (canon1_eq _ y).trans (congrArg (codes m c) (funext fun a => ?_))
  fin_cases a <;> apply Fin.ext
  · show 0 + 1 * (y 0).val = 0 * 25600 + 1 * (y 0).val; omega
  · show 0 + 1 * (y 1).val = 0 * 5120 + 1 * (y 1).val; omega

/-- The transposed codes. -/
theorem arr2 : (dats m 0 c).arrAt 2 cfg0.N = fun i => codes m c (ix2 (i 1) (i 0)) := by
  refine (dats m 0 c).arrAt_eq_of_covers 2 _ (by decide +kernel) fun t hf y => ?_
  blk_simp
  rw [after0_2, iblk_eq]
  refine (canon2_eq _ y).trans (congrArg (codes m c) (funext fun a => ?_))
  fin_cases a <;> apply Fin.ext
  · show 0 + 1 * (y 1).val = 0 * 25600 + 1 * (y 1).val; omega
  · show 0 + 1 * (y 0).val = 0 * 5120 + 1 * (y 0).val; omega

end Cert.ReferenceIdeal.Gen
-- ==== Proof.Results.lean ====
/- Both programs' runs, with every result as the same function of the two inputs. -/
module

public import proofs.«01_k».proof.Proof.Equation
public import proofs.«01_k».proof.Proof.ReferenceIdeal.Arrays

@[expose] public section

set_option maxRecDepth 16384

noncomputable section

namespace Cert.Gelu

open Idealize.ShloMosaic Idealize.ShloMosaic.TcCoe Idealize.SL.Sem Cert.ReferenceIdeal.Gen
open Cert.KernelIdeal (S25600x5120 S5120x25600 S1x5120 S200x40x8x128)
open Cert.KernelIdeal.Value (G2 G3 G4 G5)

/-- The four results, as functions of the two inputs: the sums over the rows, -/
abbrev rBias (X G : Vec Ideal S25600x5120 .bf16) : Vec Ideal S1x5120 .f32 := biasR (F := Ideal) (gradR (F := Ideal) X G)
/-- the codes, -/
abbrev rCodes (X G : Vec Ideal S25600x5120 .bf16) : Vec Ideal S25600x5120 .fp8e5m2 := fun i =>
  codesR (F := Ideal) (gradR (F := Ideal) X G) (amaxR (F := Ideal) (gradR (F := Ideal) X G)) i
/-- the transposed codes, -/
abbrev rCodesT (X G : Vec Ideal S25600x5120 .bf16) : Vec Ideal S5120x25600 .fp8e5m2 := fun i => rCodes X G (ix2 (i 1) (i 0))
/-- and the scales. -/
abbrev rScale (X G : Vec Ideal S25600x5120 .bf16) : Vec Ideal S200x40x8x128 .f32 :=
  scaleR (F := Ideal) (amaxR (F := Ideal) (gradR (F := Ideal) X G))

section
variable (m : (ℓ : Loc Cert.KernelIdeal.nD Cert.KernelIdeal.τ Cert.KernelIdeal.sig) → Buf (Elt Ideal) ℓ) (c : Dev Cert.KernelIdeal.nD)

theorem G2_result : G2 m c = rBias (Cert.KernelIdeal.Gen.X0 m c) (Cert.KernelIdeal.Gen.X1 m c) := by
  funext i
  have hi : i = ix2 0 (i 1) := funext fun a => by
    fin_cases a
    · exact Subsingleton.elim (α := Fin 1) _ _
    · rfl
  have hs : (∑ R : Fin 25600, dgelu (Cert.KernelIdeal.Gen.X0 m c (ix2 R (i 1))) (Cert.KernelIdeal.Gen.X1 m c (ix2 R (i 1))) : EReal)
      = ∑ R : Fin 25600, gradR (F := Ideal) (Cert.KernelIdeal.Gen.X0 m c) (Cert.KernelIdeal.Gen.X1 m c) (ix2 R (i 1)) :=
    Finset.sum_congr rfl fun R _ => (grad_apply _ _ _).symm
  exact (Cert.KernelIdeal.Gen.G2_eq m c i).trans (hs.trans ((congrArg (rBias _ _) hi).trans (bias_apply _ (i 1))).symm)

variable (hG : ∀ i, max (Cert.KernelIdeal.Gen.X1 m c i) (-(Cert.KernelIdeal.Gen.X1 m c i)) ≤ bfE)
include hG

theorem G3_result : G3 m c = rCodes (Cert.KernelIdeal.Gen.X0 m c) (Cert.KernelIdeal.Gen.X1 m c) := by
  funext i
  exact (Cert.KernelIdeal.Gen.G3_apply m c i).trans (code_block _ _ hG i)

theorem G4_result : G4 m c = rCodesT (Cert.KernelIdeal.Gen.X0 m c) (Cert.KernelIdeal.Gen.X1 m c) := by
  funext i
  refine (Cert.KernelIdeal.Gen.G4_apply m c i).trans ((Cert.KernelIdeal.Gen.codeT_apply _ _ _ _).trans ?_)
  exact code_block _ _ hG (ix2 (i 1) (i 0))

theorem G5_result : G5 m c = rScale (Cert.KernelIdeal.Gen.X0 m c) (Cert.KernelIdeal.Gen.X1 m c) := by
  funext i
  have hi : i = ix4 (i 0) (i 1) (i 2) (i 3) := funext fun a => by fin_cases a <;> rfl
  refine (Cert.KernelIdeal.Gen.G5_apply m c i).trans ?_
  exact (scale_block _ _ hG (i 0) (i 1) (i 2) (i 3)).trans (congrArg (rScale _ _) hi).symm

end

/-- The kernel's run. -/
theorem kernel_run (m : (ℓ : Loc Cert.KernelIdeal.nD Cert.KernelIdeal.τ Cert.KernelIdeal.sig) → Buf (Elt Ideal) ℓ)
    (ρ : Dev Cert.KernelIdeal.nD → PrngReg)
    (hG : ∀ c i, max (Cert.KernelIdeal.Gen.X1 m c i) (-(Cert.KernelIdeal.Gen.X1 m c i)) ≤ bfE) :
    θ_run Cert.KernelIdeal.defs (onTc (τ := Cert.KernelIdeal.τ) (Cert.KernelIdeal.main (F := Ideal))) ⟨m, fun _ => 0, ρ⟩ fun r => ∀ c : Dev Cert.KernelIdeal.nD,
      r.2.mem ((c : Thread Cert.KernelIdeal.nD Cert.KernelIdeal.τ).loc Cert.KernelIdeal.main_v0_0) = rBias (Cert.KernelIdeal.Gen.X0 m c) (Cert.KernelIdeal.Gen.X1 m c)
      ∧ r.2.mem ((c : Thread Cert.KernelIdeal.nD Cert.KernelIdeal.τ).loc Cert.KernelIdeal.main_v0_1) = rCodes (Cert.KernelIdeal.Gen.X0 m c) (Cert.KernelIdeal.Gen.X1 m c)
      ∧ r.2.mem ((c : Thread Cert.KernelIdeal.nD Cert.KernelIdeal.τ).loc Cert.KernelIdeal.main_v0_2) = rCodesT (Cert.KernelIdeal.Gen.X0 m c) (Cert.KernelIdeal.Gen.X1 m c)
      ∧ r.2.mem ((c : Thread Cert.KernelIdeal.nD Cert.KernelIdeal.τ).loc Cert.KernelIdeal.main_v0_3) = rScale (Cert.KernelIdeal.Gen.X0 m c) (Cert.KernelIdeal.Gen.X1 m c)
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1) :=
  (θ_run Cert.KernelIdeal.defs _ _).mono (fun _ h c => by
    obtain ⟨h2, h3, h4, h5, ha⟩ := h c
    exact ⟨h2.trans (G2_result m c), h3.trans (G3_result m c (hG c)), h4.trans (G4_result m c (hG c)), h5.trans (G5_result m c (hG c)), ha⟩)
    (Cert.KernelIdeal.Value.run m ρ)

open Cert.ReferenceIdeal in
/-- The reference's run. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v63) = rBias (X0 m c) (X1 m c)
      ∧ r.2.mem ((c : Thread nD τ).loc main_v66_0) = rCodes (X0 m c) (X1 m c)
      ∧ r.2.mem ((c : Thread nD τ).loc main_v66_1) = rCodesT (X0 m c) (X1 m c)
      ∧ r.2.mem ((c : Thread nD τ).loc main_v65) = rScale (X0 m c) (X1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      ((h c).2 main_v63 (Pipeline.mem_restRefs_of main_v63 (by decide) (by decide))).trans (V_bias m c),
      (Cert.ReferenceIdeal.Value.post1 m r h c).trans (arr1 m c),
      (Cert.ReferenceIdeal.Value.post2 m r h c).trans (arr2 m c),
      ((h c).2 main_v65 (Pipeline.mem_restRefs_of main_v65 (by decide) (by decide))).trans (V_scale m c),
      Cert.ReferenceIdeal.Value.kept_main_arg0 m r h c,
      Cert.ReferenceIdeal.Value.kept_main_arg1 m r h c⟩)
    (run_main m ρ)

end Cert.Gelu
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Frame
public import proofs.«01_k».proof.Proof.KernelIdeal.Frame
public import proofs.«01_k».proof.Proof.Gen.ReferenceIdeal.Frame
public import proofs.«01_k».proof.Proof.Finite
public import proofs.«01_k».proof.Proof.Results
public import Idealize.ShloMosaic.Adequacy
public import Idealize.ShloMosaic.Init

@[expose] public section

noncomputable section

namespace Cert.Proof

open Idealize.ShloMosaic Idealize.SL.Sem Cert.Gelu

/-- Kernel and reference leave equal results, from memories that agree on the two inputs, where the second input is finite. -/
theorem algebraic [hP : Cert.Pre_grad_finite.Facts] :
    Cert.algebraic_KernelIdeal_ReferenceIdeal_pre_grad_finite (hKernelIdeal := Cert.KernelIdeal.Gen.facts)
      (hReferenceIdeal := Cert.ReferenceIdeal.Gen.facts) := by
  intro m g m' g' hpre hagree
  refine ⟨_, _, _, _, kernel_run m g fun c => bound_of_pre _ _ (hpre c), ?_⟩
  refine (θ_run Cert.ReferenceIdeal.defs _ _).mono (fun _ h c => ?_) (reference_run m' g')
  have e0 : Cert.ReferenceIdeal.Gen.X0 m' c = Cert.KernelIdeal.Gen.X0 m c := (hagree c).1
  have e1 : Cert.ReferenceIdeal.Gen.X1 m' c = Cert.KernelIdeal.Gen.X1 m c := (hagree c).2
  have hc := h c
  rw [e0, e1] at hc
  exact hc

theorem claim : Cert.Claim := ⟨Cert.Kernel.Gen.facts, Cert.KernelIdeal.Gen.facts, Cert.ReferenceIdeal.Gen.facts, pre_facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  IdealRules.named_const.statement Cert.KernelIdeal.κ "gelu_kc" .f32 0x3D122279#32
    (((6693141 / 8388608) * (12003091 / 268435456) : ℝ) : EReal) rfl,
  algebraic (hP := pre_facts)⟩

end Cert.Proof

end
